-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S256x1024 : Shape := ⟨2, ![256, 1024]⟩
abbrev S3x2x64x1024 : Shape := ⟨4, ![3, 2, 64, 1024]⟩
abbrev S2 : Shape := ⟨1, ![2]⟩
abbrev S20 : Shape := ⟨1, ![20]⟩
abbrev S_ : Shape := ⟨0, ![]⟩
abbrev S1 : Shape := ⟨1, ![1]⟩
abbrev S128x1024 : Shape := ⟨2, ![128, 1024]⟩
abbrev S64x2048 : Shape := ⟨2, ![64, 2048]⟩
abbrev S1x1x64x1024 : Shape := ⟨4, ![1, 1, 64, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S256x1024, .f32⟩
  | .local _ .vmem, ⟨0, _⟩ => ⟨S64x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .f32⟩
  | .local _ .vmem, ⟨4, _⟩ => ⟨S3x2x64x1024, .bf16⟩
  | .local _ .vmem, ⟨5, _⟩ => ⟨S3x2x64x1024, .bf16⟩
  | .local _ .vmem, ⟨6, _⟩ => ⟨S3x2x64x1024, .bf16⟩
  | .local _ .vmem, ⟨7, _⟩ => ⟨S1024x2048, .f32⟩
  | .local _ .vmem, ⟨8, _⟩ => ⟨S2048x1024, .f32⟩
  | .local _ .vmem, ⟨9, _⟩ => ⟨S1024x2048, .bf16⟩
  | .local _ .vmem, ⟨10, _⟩ => ⟨S2048x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_5 : BitVec 32 := 1#32
  let v10 : BitVec 32 := Scalar.muli v3 c1_i32_5
  let v11 : BitVec 32 := Scalar.addi c0_i32_6 v10
  v11.toNat
def k0_dev2 (d0 : Dev nD) : Nat :=
  let c0_i32_9 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_8 : BitVec 32 := 1#32
  let v12 : BitVec 32 := Scalar.muli v4 c1_i32_8
  let v13 : BitVec 32 := Scalar.addi c0_i32_9 v12
  v13.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v17 : BitVec 32 := Scalar.muli v2 c64_i32
  let v18 : Index := Scalar.indexCast v17
  let c0_11 : Index := 0#32
  ![v18.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_14 : BitVec 32 := 64#32
  let v26 : BitVec 32 := Scalar.muli v2 c64_i32_14
  let c0_i32_19 : BitVec 32 := 0#32
  ![v26.toNat, 0]
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_17 : BitVec 32 := 1#32
  let v27 : BitVec 32 := Scalar.muli v3 c1_i32_17
  let v28 : BitVec 32 := Scalar.addi c0_i32_18 v27
  v28.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_33 : BitVec 32 := 0#32
  let v46 : BitVec 1 := Scalar.cmpi .sgt v2 c0_i32_33
  let v47 : BitVec 32 := Scalar.extui v46
  let c0_i32_34 : BitVec 32 := 0#32
  let v48 : BitVec 1 := Scalar.cmpi .slt v2 c0_i32_34
  let v49 : BitVec 32 := Scalar.extui v48
  let v50 : BitVec 32 := Scalar.subi v47 v49
  let c2_i32_32 : BitVec 32 := 2#32
  let c0_i32_35 : BitVec 32 := 0#32
  let v51 : BitVec 1 := Scalar.cmpi .sgt c2_i32_32 c0_i32_35
  let v52 : BitVec 32 := Scalar.extui v51
  let c0_i32_36 : BitVec 32 := 0#32
  let v53 : BitVec 1 := Scalar.cmpi .slt c2_i32_32 c0_i32_36
  let v54 : BitVec 32 := Scalar.extui v53
  let v55 : BitVec 32 := Scalar.subi v52 v54
  let v56 : BitVec 1 := Scalar.cmpi .ne v50 v55
  let v57 : BitVec 32 := Scalar.remsi v2 c2_i32_32
  let c0_i32_37 : BitVec 32 := 0#32
  let v58 : BitVec 1 := Scalar.cmpi .ne v57 c0_i32_37
  let v59 : BitVec 1 := Scalar.andi v56 v58
  let v45 : BitVec 32 := Scalar.divsi v2 c2_i32_32
  let c1_i32_38 : BitVec 32 := 1#32
  let v60 : BitVec 32 := Scalar.subi v45 c1_i32_38
  let v61 : BitVec 32 := Scalar.select v59 v60 v45
  let c128_i32 : BitVec 32 := 128#32
  let v62 : BitVec 32 := Scalar.muli v61 c128_i32
  let c0_i32_43 : BitVec 32 := 0#32
  ![v62.toNat, 0]
def k0_dev4 (d0 : Dev nD) : Nat :=
  let c0_i32_42 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_41 : BitVec 32 := 1#32
  let v63 : BitVec 32 := Scalar.muli v4 c1_i32_41
  let v64 : BitVec 32 := Scalar.addi c0_i32_42 v63
  v64.toNat
def k0_off4 (d0 : Dev nD) : Fin 2 → Nat :=
  let c1_i32_66 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v95 : BitVec 32 := Scalar.subi c1_i32_66 v8
  let c128_i32_67 : BitVec 32 := 128#32
  let v96 : BitVec 32 := Scalar.muli v95 c128_i32_67
  let v97 : Index := Scalar.indexCast v96
  let c0_68 : Index := 0#32
  ![v97.toNat, 0]
def k0_off5 (d0 : Dev nD) : Fin 2 → Nat :=
  let c1_i32_66 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v95 : BitVec 32 := Scalar.subi c1_i32_66 v8
  let c128_i32_67 : BitVec 32 := 128#32
  let v96 : BitVec 32 := Scalar.muli v95 c128_i32_67
  let c64_i32_79 : BitVec 32 := 64#32
  let v110 : BitVec 32 := Scalar.addi v96 c64_i32_79
  let v111 : Index := Scalar.indexCast v110
  let c0_80 : Index := 0#32
  ![v111.toNat, 0]
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_100 : BitVec 32 := 1#32
  let v127 : BitVec 32 := Scalar.muli v3 c1_i32_100
  let v128 : BitVec 32 := Scalar.addi c0_i32_101 v127
  v128.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_112 : BitVec 32 := 1#32
  let v137 : BitVec 32 := Scalar.muli v3 c1_i32_112
  let v138 : BitVec 32 := Scalar.addi c0_i32_113 v137
  v138.toNat
def k0_off6 (d0 : Dev nD) (c0_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v124 : BitVec 32 := Scalar.xori v8 c0_i32_91
  let c128_i32_92 : BitVec 32 := 128#32
  let v125 : BitVec 32 := Scalar.muli v124 c128_i32_92
  let v147 : Index := Scalar.indexCast v125
  let c0_118 : Index := 0#32
  ![v147.toNat, 0]
def k0_off7 (d0 : Dev nD) (c0_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v124 : BitVec 32 := Scalar.xori v8 c0_i32_91
  let c128_i32_92 : BitVec 32 := 128#32
  let v125 : BitVec 32 := Scalar.muli v124 c128_i32_92
  let c64_i32_127 : BitVec 32 := 64#32
  let v160 : BitVec 32 := Scalar.addi v125 c64_i32_127
  let v161 : Index := Scalar.indexCast v160
  let c0_128 : Index := 0#32
  ![v161.toNat, 0]
def k0_off8 (d0 : Dev nD) (c0_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v124 : BitVec 32 := Scalar.xori v8 c0_i32_91
  let c128_i32_92 : BitVec 32 := 128#32
  let v125 : BitVec 32 := Scalar.muli v124 c128_i32_92
  let c0_i32_178 : BitVec 32 := 0#32
  ![v125.toNat, 0]
def k0_dev7 (d0 : Dev nD) : Nat :=
  let c0_i32_175 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_174 : BitVec 32 := 1#32
  let v209 : BitVec 32 := Scalar.muli v4 c1_i32_174
  let v210 : BitVec 32 := Scalar.addi c0_i32_175 v209
  v210.toNat
def k0_off9 (d0 : Dev nD) (c0_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v124 : BitVec 32 := Scalar.xori v8 c0_i32_91
  let c128_i32_92 : BitVec 32 := 128#32
  let v125 : BitVec 32 := Scalar.muli v124 c128_i32_92
  let c64_i32_93 : BitVec 32 := 64#32
  let v126 : BitVec 32 := Scalar.addi v125 c64_i32_93
  let c0_i32_217 : BitVec 32 := 0#32
  ![v126.toNat, 0]
def k0_dev8 (d0 : Dev nD) : Nat :=
  let c0_i32_214 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_213 : BitVec 32 := 1#32
  let v249 : BitVec 32 := Scalar.muli v4 c1_i32_213
  let v250 : BitVec 32 := Scalar.addi c0_i32_214 v249
  v250.toNat
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_252 : BitVec 32 := 1#32
  let v295 : BitVec 32 := Scalar.muli v3 c1_i32_252
  let v296 : BitVec 32 := Scalar.addi c0_i32_253 v295
  v296.toNat
def k0_dev10 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_280 : BitVec 32 := 1#32
  let v326 : BitVec 32 := Scalar.muli v3 c1_i32_280
  let v327 : BitVec 32 := Scalar.addi c0_i32_281 v326
  v327.toNat
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_317 : BitVec 32 := 1#32
  let v364 : BitVec 32 := Scalar.muli v3 c1_i32_317
  let v365 : BitVec 32 := Scalar.addi c0_i32_318 v364
  v365.toNat
def k0_dev12 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_328 : BitVec 32 := 1#32
  let v374 : BitVec 32 := Scalar.muli v3 c1_i32_328
  let v375 : BitVec 32 := Scalar.addi c0_i32_329 v374
  v375.toNat
def k0_dev13 (d0 : Dev nD) : Nat :=
  let c0_i32_412 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_411 : BitVec 32 := 1#32
  let v466 : BitVec 32 := Scalar.muli v4 c1_i32_411
  let v467 : BitVec 32 := Scalar.addi c0_i32_412 v466
  v467.toNat
def k0_dev14 (d0 : Dev nD) : Nat :=
  let c0_i32_451 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_450 : BitVec 32 := 1#32
  let v506 : BitVec 32 := Scalar.muli v4 c1_i32_450
  let v507 : BitVec 32 := Scalar.addi c0_i32_451 v506
  v507.toNat
def k0_dev15 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_489 : BitVec 32 := 1#32
  let v552 : BitVec 32 := Scalar.muli v3 c1_i32_489
  let v553 : BitVec 32 := Scalar.addi c0_i32_490 v552
  v553.toNat
def k0_dev16 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_517 : BitVec 32 := 1#32
  let v583 : BitVec 32 := Scalar.muli v3 c1_i32_517
  let v584 : BitVec 32 := Scalar.addi c0_i32_518 v583
  v584.toNat
def k0_dev17 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_553 : BitVec 32 := 1#32
  let v621 : BitVec 32 := Scalar.muli v3 c1_i32_553
  let v622 : BitVec 32 := Scalar.addi c0_i32_554 v621
  v622.toNat
def k0_dev18 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_564 : BitVec 32 := 1#32
  let v631 : BitVec 32 := Scalar.muli v3 c1_i32_564
  let v632 : BitVec 32 := Scalar.addi c0_i32_565 v631
  v632.toNat
def k0_dev19 (d0 : Dev nD) : Nat :=
  let c0_i32_646 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_645 : BitVec 32 := 1#32
  let v719 : BitVec 32 := Scalar.muli v4 c1_i32_645
  let v720 : BitVec 32 := Scalar.addi c0_i32_646 v719
  v720.toNat
def k0_dev20 (d0 : Dev nD) : Nat :=
  let c0_i32_685 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_684 : BitVec 32 := 1#32
  let v759 : BitVec 32 := Scalar.muli v4 c1_i32_684
  let v760 : BitVec 32 := Scalar.addi c0_i32_685 v759
  v760.toNat
def k0_dev21 (d0 : Dev nD) : Nat :=
  let c0_i32_716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_715 : BitVec 32 := 1#32
  let v797 : BitVec 32 := Scalar.muli v3 c1_i32_715
  let v798 : BitVec 32 := Scalar.addi c0_i32_716 v797
  v798.toNat
def k0_dev22 (d0 : Dev nD) : Nat :=
  let c0_i32_746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_745 : BitVec 32 := 1#32
  let v834 : BitVec 32 := Scalar.muli v3 c1_i32_745
  let v835 : BitVec 32 := Scalar.addi c0_i32_746 v834
  v835.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let c0_i32_545 : BitVec 32 := 0#32
  let v618 : BitVec 32 := Scalar.xori v8 c0_i32_545
  let c128_i32_546 : BitVec 32 := 128#32
  let v619 : BitVec 32 := Scalar.muli v618 c128_i32_546
  let v842 : Index := Scalar.indexCast v619
  let c0_749 : Index := 0#32
  ![v842.toNat, 0]
def k0_off11 (d0 : Dev nD) : Fin 2 → Nat :=
  let c1_i32_773 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let c0_i32_545 : BitVec 32 := 0#32
  let v618 : BitVec 32 := Scalar.xori v8 c0_i32_545
  let v866 : BitVec 32 := Scalar.subi c1_i32_773 v618
  let c128_i32_774 : BitVec 32 := 128#32
  let v867 : BitVec 32 := Scalar.muli v866 c128_i32_774
  let v868 : Index := Scalar.indexCast v867
  let c0_775 : Index := 0#32
  ![v868.toNat, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x1024 : Shape := ⟨2, ![256, 1024]⟩
abbrev S1024x8192 : Shape := ⟨2, ![1024, 8192]⟩
abbrev S8192x1024 : Shape := ⟨2, ![8192, 1024]⟩
abbrev S256x8192 : Shape := ⟨2, ![256, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x8192, .f32⟩
  | .hbm, ⟨6, _⟩ => ⟨S8192x1024, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x1024, .f32⟩
  | .hbm, ⟨12, _⟩ => ⟨S256x8192, .f32⟩
  | .hbm, ⟨13, _⟩ => ⟨S_, .f32⟩
  | .hbm, ⟨14, _⟩ => ⟨S256x8192, .f32⟩
  | .hbm, ⟨15, _⟩ => ⟨S256x8192, .f32⟩
  | .hbm, ⟨16, _⟩ => ⟨S256x1024, .f32⟩
  | .hbm, ⟨17, _⟩ => ⟨S256x8192, .f32⟩
  | .hbm, ⟨18, _⟩ => ⟨S_, .f32⟩
  | .hbm, ⟨19, _⟩ => ⟨S256x8192, .f32⟩
  | .hbm, ⟨20, _⟩ => ⟨S256x8192, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Base.lean ====
/-
The machine parts the proof speaks of: the resource algebra, the two exchange partners of a device, the row
quarters and halves the kernel addresses, the closed forms of its offset and device computations, and how a
memref's ownership is loaded from, stored to, split and joined.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchanges' rounds library: two duties on a barrier cell, one (`false`) on a transfer's cell. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- The weakest precondition of a program of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The partners, the halves and the quarters -/

set_option backward.proofsInPublic true in
/-- The first partner: 0 ↔ 1, 2 ↔ 3. -/
def p1 (c : Dev nD) : Dev nD := ⟨(if c.val % 2 = 0 then c.val + 1 else c.val - 1) % 4, Nat.mod_lt _ (by decide)⟩
set_option backward.proofsInPublic true in
/-- The second partner: 0 ↔ 3, 1 ↔ 2. -/
def p2 (c : Dev nD) : Dev nD := ⟨(3 - c.val) % 4, Nat.mod_lt _ (by decide)⟩

theorem p1_p1 (c : Dev nD) : p1 (p1 c) = c := by revert c; decide
theorem p2_p2 (c : Dev nD) : p2 (p2 c) = c := by revert c; decide

set_option backward.proofsInPublic true in
/-- The half of the rows device `c` keeps at parity `p`: devices 0 and 3 the second at parity 0. -/
def kh (p : Fin 2) (c : Dev nD) : Fin 2 := ⟨((if c.val = 0 ∨ c.val = 3 then 1 else 0) + p.val) % 2, Nat.mod_lt _ (by decide)⟩
set_option backward.proofsInPublic true in
/-- Quarter `q` of half `h`. -/
def qt (h q : Fin 2) : Fin 4 := ⟨(2 * h.val + q.val) % 4, Nat.mod_lt _ (by decide)⟩
set_option backward.proofsInPublic true in
/-- Quarter `q` of the half device `c` keeps at parity `p`. -/
def kq (p q : Fin 2) (c : Dev nD) : Fin 4 := qt (kh p c) q
set_option backward.proofsInPublic true in
/-- The half of the rows whose quarters the first partners gather. -/
def gh (c : Dev nD) : Fin 2 := ⟨(c.val / 2) % 2, Nat.mod_lt _ (by decide)⟩

theorem kh_p1 (p : Fin 2) (c : Dev nD) : kh p (p1 c) = kh (1 - p) c := by revert p c; decide
theorem kh_p2 (p : Fin 2) (c : Dev nD) : kh p (p2 c) = kh p c := by revert p c; decide
theorem kq_p1 (p q : Fin 2) (c : Dev nD) : kq p q (p1 c) = kq (1 - p) q c := by revert p q c; decide
theorem kq_p2 (p q : Fin 2) (c : Dev nD) : kq p q (p2 c) = kq p q c := by revert p q c; decide

/-! ## The kernel's device and offset computations in closed form -/

theorem dev1_eq (c : Dev nD) : (⟨k0_dev1 c, k0_dev1_lt c⟩ : Dev nD) = p1 c := by revert c; decide
theorem dev2_eq (c : Dev nD) : (⟨k0_dev2 c, k0_dev2_lt c⟩ : Dev nD) = p2 c := by revert c; decide
theorem dev3_eq (c : Dev nD) : (⟨k0_dev3 c, k0_dev3_lt c⟩ : Dev nD) = p1 c := by revert c; decide
theorem dev4_eq (c : Dev nD) : (⟨k0_dev4 c, k0_dev4_lt c⟩ : Dev nD) = p2 c := by revert c; decide
theorem dev5_eq (c : Dev nD) : (⟨k0_dev5 c, k0_dev5_lt c⟩ : Dev nD) = p1 c := by revert c; decide
theorem dev6_eq (c : Dev nD) : (⟨k0_dev6 c, k0_dev6_lt c⟩ : Dev nD) = p1 c := by revert c; decide
theorem dev7_eq (c : Dev nD) : (⟨k0_dev7 c, k0_dev7_lt c⟩ : Dev nD) = p2 c := by revert c; decide
theorem dev8_eq (c : Dev nD) : (⟨k0_dev8 c, k0_dev8_lt c⟩ : Dev nD) = p2 c := by revert c; decide
theorem dev9_eq (c : Dev nD) : (⟨k0_dev9 c, k0_dev9_lt c⟩ : Dev nD) = p1 c := by revert c; decide
theorem dev10_eq (c : Dev nD) : (⟨k0_dev10 c, k0_dev10_lt c⟩ : Dev nD) = p1 c := by revert c; decide
theorem dev11_eq (c : Dev nD) : (⟨k0_dev11 c, k0_dev11_lt c⟩ : Dev nD) = p1 c := by revert c; decide
theorem dev12_eq (c : Dev nD) : (⟨k0_dev12 c, k0_dev12_lt c⟩ : Dev nD) = p1 c := by revert c; decide
theorem dev13_eq (c : Dev nD) : (⟨k0_dev13 c, k0_dev13_lt c⟩ : Dev nD) = p2 c := by revert c; decide
theorem dev14_eq (c : Dev nD) : (⟨k0_dev14 c, k0_dev14_lt c⟩ : Dev nD) = p2 c := by revert c; decide
theorem dev15_eq (c : Dev nD) : (⟨k0_dev15 c, k0_dev15_lt c⟩ : Dev nD) = p1 c := by revert c; decide
theorem dev16_eq (c : Dev nD) : (⟨k0_dev16 c, k0_dev16_lt c⟩ : Dev nD) = p1 c := by revert c; decide
theorem dev17_eq (c : Dev nD) : (⟨k0_dev17 c, k0_dev17_lt c⟩ : Dev nD) = p1 c := by revert c; decide
theorem dev18_eq (c : Dev nD) : (⟨k0_dev18 c, k0_dev18_lt c⟩ : Dev nD) = p1 c := by revert c; decide
theorem dev19_eq (c : Dev nD) : (⟨k0_dev19 c, k0_dev19_lt c⟩ : Dev nD) = p2 c := by revert c; decide
theorem dev20_eq (c : Dev nD) : (⟨k0_dev20 c, k0_dev20_lt c⟩ : Dev nD) = p2 c := by revert c; decide
theorem dev21_eq (c : Dev nD) : (⟨k0_dev21 c, k0_dev21_lt c⟩ : Dev nD) = p1 c := by revert c; decide
theorem dev22_eq (c : Dev nD) : (⟨k0_dev22 c, k0_dev22_lt c⟩ : Dev nD) = p1 c := by revert c; decide

theorem off1_eq (c : Dev nD) : k0_off1 c = ![64 * (⟨c.val, c.isLt⟩ : Fin 4).val, 0] := by revert c; decide
theorem off2_eq (c : Dev nD) : k0_off2 c = ![64 * (⟨c.val, c.isLt⟩ : Fin 4).val, 0] := by revert c; decide
theorem off3_eq (c : Dev nD) : k0_off3 c = ![128 * (gh c).val, 0] := by revert c; decide
theorem off4_eq (c : Dev nD) : k0_off4 c = ![64 * (kq 1 0 c).val, 0] := by revert c; decide
theorem off5_eq (c : Dev nD) : k0_off5 c = ![64 * (kq 1 1 c).val, 0] := by revert c; decide
theorem off6_0_eq (c : Dev nD) : k0_off6 c 0#32 = ![64 * (kq 0 0 c).val, 0] := by revert c; decide
theorem off6_1_eq (c : Dev nD) : k0_off6 c 1#32 = ![64 * (kq 1 0 c).val, 0] := by revert c; decide
theorem off7_0_eq (c : Dev nD) : k0_off7 c 0#32 = ![64 * (kq 0 1 c).val, 0] := by revert c; decide
theorem off7_1_eq (c : Dev nD) : k0_off7 c 1#32 = ![64 * (kq 1 1 c).val, 0] := by revert c; decide
theorem off8_0_eq (c : Dev nD) : k0_off8 c 0#32 = ![64 * (kq 0 0 c).val, 0] := by revert c; decide
theorem off8_1_eq (c : Dev nD) : k0_off8 c 1#32 = ![64 * (kq 1 0 c).val, 0] := by revert c; decide
theorem off9_0_eq (c : Dev nD) : k0_off9 c 0#32 = ![64 * (kq 0 1 c).val, 0] := by revert c; decide
theorem off9_1_eq (c : Dev nD) : k0_off9 c 1#32 = ![64 * (kq 1 1 c).val, 0] := by revert c; decide
theorem off10_eq (c : Dev nD) : k0_off10 c = ![128 * (kh 0 c).val, 0] := by revert c; decide
theorem off11_eq (c : Dev nD) : k0_off11 c = ![128 * (kh 1 c).val, 0] := by revert c; decide

end Cert.KernelIdeal.Pf
-- ==== Proof.Own.lean ====
/-
What a device holds of a buffer: a memref owned at known contents (`own`) or at any (`any`); the row quarters and
halves of the 256-row buffers and the blocks of the exchange buffers; how each is loaded from, stored to, split and
joined.
-/
module

public import proofs.«01_k».proof.Proof.Base
public import Idealize.ShloMosaic.Lib.MemrefSat

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Holdings -/

/-- Device `c`'s core owns the memref at share `q` and reads `X` through it. -/
def own (c : Dev nD) {sp : Space} {sh : Shape} {e : EltTy} (m : Memref sig .tc sp sh e) (q : PosShare TreeShare)
    (X : sh.Idx → Elt F e) : sProp 𝕄 := owns (c : Thread nD τ) m q X

/-- Device `c`'s core owns the memref at share `q`, at contents of which nothing is said. -/
def any (c : Dev nD) {sp : Space} {sh : Shape} {e : EltTy} (m : Memref sig .tc sp sh e) (q : PosShare TreeShare) : sProp 𝕄 :=
  iprop(∃ X : sh.Idx → Elt F e, own c m q X)

instance own_storable (c : Dev nD) {sp : Space} {sh : Shape} {e : EltTy} (m : Memref sig .tc sp sh e) (q : PosShare TreeShare)
    (X : sh.Idx → Elt F e) : BI.Storable (upEmb : UEmb _ 𝕄) (own c m q X) := by unfold own; infer_instance
instance any_storable (c : Dev nD) {sp : Space} {sh : Shape} {e : EltTy} (m : Memref sig .tc sp sh e) (q : PosShare TreeShare) :
    BI.Storable (upEmb : UEmb _ 𝕄) (any (F := F) c m q) := by unfold any; infer_instance

section Basic

variable (c : Dev nD) {sp : Space} {sh : Shape} {e : EltTy} (m : Memref sig .tc sp sh e)

theorem own_any (q : PosShare TreeShare) (X : sh.Idx → Elt F e) : (own c m q X : sProp 𝕄) ⊢ any c m q := by
  unfold any; iintro H; iexists X; iexact H

/-- The full share is its two halves. -/
theorem own_halve (X : sh.Idx → Elt F e) :
    (own c m fullShare X : sProp 𝕄) ⊢ iprop(own c m fullShare.left X ∗ own c m fullShare.right X) :=
  (owns_halves (c : Thread nD τ) m fullShare X).1

/-- The two halves, whatever each knows of the contents, are the full share. -/
theorem any_rejoin : iprop(any c m fullShare.left ∗ any c m fullShare.right) ⊢ (any c m fullShare : sProp 𝕄) := by
  unfold any
  iintro ⟨⟨%X, Hl⟩, Hr⟩
  iexists X
  unfold own
  iapply (owns_rejoin (Φ := fun _ => True) (c : Thread nD τ) m fullShare X)
  isplitl [Hl]; · iexact Hl
  iapply (ownsSat_true (c : Thread nD τ) m fullShare.right).2
  iexact Hr

/-- A whole buffer owned at contents `f` is its points-to. -/
theorem own_whole (b : Ref sig .tc) (q : PosShare TreeShare) (f : b.ty.Contents (Elt F)) :
    (own c (Memref.whole b) q f : sProp 𝕄) = ((c : Thread nD τ).loc b) ↦{q} f := owns_whole (c : Thread nD τ) b q f

/-- A whole buffer owned at any contents. -/
theorem any_whole (b : Ref sig .tc) (q : PosShare TreeShare) :
    (any c (Memref.whole b) q : sProp 𝕄) = iprop(∃ f : Buf (Elt F) ((c : Thread nD τ).loc b), ((c : Thread nD τ).loc b) ↦{q} f) := by
  unfold any; exact congrArg _ (funext fun f => own_whole c b q f)

/-- A load through a rectangle of unit strides reads what the rectangle's slice is owned at. -/
theorem own_load_rect {α : Type} {Q : α → sProp 𝕄} {cs : CoreSpace} (m : Memref sig .tc cs sh e) (r : Rect sh) (hr : ∀ a, r.stride a = 1) (q : PosShare TreeShare)
    (X : r.shape.Idx → Elt F e) {hl : m.view.LoadsAt r.toLoadRect}
    {k : (r.shape.Idx → Elt F e) → Prog (TpuEff nD τ sig (Elt F) Λ₀ .tc) α} :
    (own c (m.slice r hr) q X : sProp 𝕄)
      ⊢ iprop((own c (m.slice r hr) q X -∗ WP c (k X) Q) -∗ WP c (.op (.load m r.toLoadRect hl) k) Q) := by
  unfold own owns
  iintro ⟨%f, %hf, H⟩ K
  subst hf
  iapply (wp_load_rect 𝒱₀ (c : Thread nD τ) none Set.univ (m := m) (r := r) (S := (m.access r).set) (f := f) (Finset.Subset.refl _)) $$ [H]
  · iexact H
  iintro H
  iapply K
  iexists f; isplitr; · ipureintro; rfl
  iexact H

/-- An unmasked store through a rectangle leaves its slice owned at what was stored. -/
theorem own_store_rect {α : Type} {Q : α → sProp 𝕄} {cs : CoreSpace} (m : Memref sig .tc cs sh e) (r : Rect sh) (hr : ∀ a, r.stride a = 1)
    (w : r.shape.Idx → Elt F e) {hx : (m.access r).Stores Finset.univ} {hm : Finset.univ = Finset.univ ∨ ∀ a, r.stride a = 1}
    {k : PUnit → Prog (TpuEff nD τ sig (Elt F) Λ₀ .tc) α} :
    (any c (m.slice r hr) fullShare : sProp 𝕄)
      ⊢ iprop((own c (m.slice r hr) fullShare w -∗ WP c (k ⟨⟩) Q) -∗ WP c (.op (.store m r w Finset.univ hx hm) k) Q) := by
  unfold any own owns
  iintro ⟨%X, %f, -, H⟩ K
  iapply (wp_store 𝒱₀ (c : Thread nD τ) none Set.univ (m := m) (r := r) (w := w) (S := (m.access r).set) (f := f) (Finset.Subset.refl _)) $$ [H]
  · iexact H
  iintro H
  iapply K
  iexists _; isplitr
  swap; · iexact H
  ipureintro
  exact View.read_write_univ ..

end Basic

/-! ## The quarters and halves of a 256-row buffer -/

theorem qr_inb (n : Fin 4) : ∀ a : Fin 2, (![64 * n.val, 0] : Fin 2 → Nat) a + S64x1024.size a ≤ S256x1024.size a := by
  revert n; decide
theorem hr_inb (h : Fin 2) : ∀ a : Fin 2, (![128 * h.val, 0] : Fin 2 → Nat) a + S128x1024.size a ≤ S256x1024.size a := by
  revert h; decide
theorem hq_inb (q : Fin 2) : ∀ a : Fin 2, (![64 * q.val, 0] : Fin 2 → Nat) a + S64x1024.size a ≤ S128x1024.size a := by
  revert q; decide

/-- The rows `64 n … 64 n + 63` of a 256-row buffer. -/
abbrev qr (n : Fin 4) : Rect S256x1024 := Rect.unit (s := S256x1024) ![64 * n.val, 0] S64x1024.size (qr_inb n)
/-- The rows `128 h … 128 h + 127` of a 256-row buffer. -/
abbrev hr (h : Fin 2) : Rect S256x1024 := Rect.unit (s := S256x1024) ![128 * h.val, 0] S128x1024.size (hr_inb h)
/-- The rows `64 q … 64 q + 63` of a half. -/
abbrev hq (q : Fin 2) : Rect S128x1024 := Rect.unit (s := S128x1024) ![64 * q.val, 0] S64x1024.size (hq_inb q)

variable {sp : Space} {e : EltTy}

/-- Quarter `n` of a 256-row memref. -/
abbrev quar (M : Memref sig .tc sp S256x1024 e) (n : Fin 4) : Memref sig .tc sp S64x1024 e := M.slice (qr n) (fun _ => rfl)
/-- Half `h` of a 256-row memref. -/
abbrev half (M : Memref sig .tc sp S256x1024 e) (h : Fin 2) : Memref sig .tc sp S128x1024 e := M.slice (hr h) (fun _ => rfl)

theorem hr_disj : ∀ t t' : Fin 2, t ≠ t' → Disjoint (hr t).set (hr t').set := by
  intro t t' h
  refine Rect.unit_disjoint (s := S256x1024) (0 : Fin 2) ?_
  revert t t'; decide
theorem qr_disj : ∀ t t' : Fin 4, t ≠ t' → Disjoint (qr t).set (qr t').set := by
  intro t t' h
  refine Rect.unit_disjoint (s := S256x1024) (0 : Fin 2) ?_
  revert t t'; decide
theorem hq_disj : ∀ t t' : Fin 2, t ≠ t' → Disjoint (hq t).set (hq t').set := by
  intro t t' h
  refine Rect.unit_disjoint (s := S128x1024) (0 : Fin 2) ?_
  revert t t'; decide

theorem hr_cov : (Finset.univ : Finset (Fin 2)).biUnion (fun t => (hr t).set) = Finset.univ := by
  refine Finset.eq_univ_iff_forall.mpr fun i => Finset.mem_biUnion.mpr ?_
  have h0 : (i (0 : Fin 2)).val < 256 := (i (0 : Fin 2)).isLt
  have h1 : (i (1 : Fin 2)).val < 1024 := (i (1 : Fin 2)).isLt
  refine ⟨⟨(i (0 : Fin 2)).val / 128, by omega⟩, Finset.mem_univ _, Rect.mem_set_unit.mpr (Fin.forall_fin_two.mpr ⟨?_, ?_⟩)⟩
  · show 128 * ((i (0 : Fin 2)).val / 128) ≤ (i (0 : Fin 2)).val ∧ (i (0 : Fin 2)).val < 128 * ((i (0 : Fin 2)).val / 128) + 128; omega
  · show 0 ≤ (i (1 : Fin 2)).val ∧ (i (1 : Fin 2)).val < 0 + 1024; omega
theorem qr_cov : (Finset.univ : Finset (Fin 4)).biUnion (fun t => (qr t).set) = Finset.univ := by
  refine Finset.eq_univ_iff_forall.mpr fun i => Finset.mem_biUnion.mpr ?_
  have h0 : (i (0 : Fin 2)).val < 256 := (i (0 : Fin 2)).isLt
  have h1 : (i (1 : Fin 2)).val < 1024 := (i (1 : Fin 2)).isLt
  refine ⟨⟨(i (0 : Fin 2)).val / 64, by omega⟩, Finset.mem_univ _, Rect.mem_set_unit.mpr (Fin.forall_fin_two.mpr ⟨?_, ?_⟩)⟩
  · show 64 * ((i (0 : Fin 2)).val / 64) ≤ (i (0 : Fin 2)).val ∧ (i (0 : Fin 2)).val < 64 * ((i (0 : Fin 2)).val / 64) + 64; omega
  · show 0 ≤ (i (1 : Fin 2)).val ∧ (i (1 : Fin 2)).val < 0 + 1024; omega
theorem hq_cov : (Finset.univ : Finset (Fin 2)).biUnion (fun t => (hq t).set) = Finset.univ := by
  refine Finset.eq_univ_iff_forall.mpr fun i => Finset.mem_biUnion.mpr ?_
  have h0 : (i (0 : Fin 2)).val < 128 := (i (0 : Fin 2)).isLt
  have h1 : (i (1 : Fin 2)).val < 1024 := (i (1 : Fin 2)).isLt
  refine ⟨⟨(i (0 : Fin 2)).val / 64, by omega⟩, Finset.mem_univ _, Rect.mem_set_unit.mpr (Fin.forall_fin_two.mpr ⟨?_, ?_⟩)⟩
  · show 64 * ((i (0 : Fin 2)).val / 64) ≤ (i (0 : Fin 2)).val ∧ (i (0 : Fin 2)).val < 64 * ((i (0 : Fin 2)).val / 64) + 64; omega
  · show 0 ≤ (i (1 : Fin 2)).val ∧ (i (1 : Fin 2)).val < 0 + 1024; omega

/-! ### The blocks of the exchange buffers -/

theorem br_inb (l : Fin 3) (q : Fin 2) :
    ∀ a : Fin 4, (![l.val, q.val, 0, 0] : Fin 4 → Nat) a + S1x1x64x1024.size a ≤ S3x2x64x1024.size a := by
  revert l q; decide
/-- Block `(l, q)` of an exchange buffer. -/
abbrev br (l : Fin 3) (q : Fin 2) : Rect S3x2x64x1024 :=
  Rect.unit (s := S3x2x64x1024) ![l.val, q.val, 0, 0] S1x1x64x1024.size (br_inb l q)
/-- Block `(l, q)` of an exchange buffer as 64 rows. -/
abbrev blk (M : Memref sig .tc sp S3x2x64x1024 e) (l : Fin 3) (q : Fin 2) : Memref sig .tc sp S64x1024 e :=
  (M.slice (br l q) (fun _ => rfl)).squeeze S64x1024 squeezes_S1x1x64x1024_S64x1024

theorem br_disj : ∀ t t' : Fin 3 × Fin 2, t ≠ t' → Disjoint (br t.1 t.2).set (br t'.1 t'.2).set := by
  intro t t' h
  by_cases h1 : t.1 = t'.1
  · have h2 : t.2 ≠ t'.2 := fun h2 => h (Prod.ext h1 h2)
    refine Rect.unit_disjoint (s := S3x2x64x1024) (1 : Fin 4) ?_
    show t.2.val + 1 ≤ t'.2.val ∨ t'.2.val + 1 ≤ t.2.val
    have := fun h => h2 (Fin.ext h); omega
  · refine Rect.unit_disjoint (s := S3x2x64x1024) (0 : Fin 4) ?_
    show t.1.val + 1 ≤ t'.1.val ∨ t'.1.val + 1 ≤ t.1.val
    have := fun h => h1 (Fin.ext h); omega
theorem br_cov : (Finset.univ : Finset (Fin 3 × Fin 2)).biUnion (fun t => (br t.1 t.2).set) = Finset.univ := by
  refine Finset.eq_univ_iff_forall.mpr fun i => Finset.mem_biUnion.mpr ?_
  have h2 : (i (2 : Fin 4)).val < 64 := (i (2 : Fin 4)).isLt
  have h3 : (i (3 : Fin 4)).val < 1024 := (i (3 : Fin 4)).isLt
  refine ⟨(i (0 : Fin 4), i (1 : Fin 4)), Finset.mem_univ _, Rect.mem_set_unit.mpr fun a => ?_⟩
  fin_cases a
  · show (i (0 : Fin 4)).val ≤ (i (0 : Fin 4)).val ∧ (i (0 : Fin 4)).val < (i (0 : Fin 4)).val + 1; omega
  · show (i (1 : Fin 4)).val ≤ (i (1 : Fin 4)).val ∧ (i (1 : Fin 4)).val < (i (1 : Fin 4)).val + 1; omega
  · show 0 ≤ (i (2 : Fin 4)).val ∧ (i (2 : Fin 4)).val < 0 + 64; omega
  · show 0 ≤ (i (3 : Fin 4)).val ∧ (i (3 : Fin 4)).val < 0 + 1024; omega

/-! ## Splitting and joining -/

section Parts

variable (c : Dev nD) {sp : Space} {sh : Shape} {e : EltTy} (m : Memref sig .tc sp sh e) (q : PosShare TreeShare)
variable {T : Type} [Fintype T] [DecidableEq T] (r : T → Rect sh) (hs : ∀ t a, (r t).stride a = 1)
  (hd : ∀ t t', t ≠ t' → Disjoint (r t).set (r t').set)
  (hcov : (Finset.univ : Finset T).biUnion (fun t => (r t).set) = Finset.univ)
include hd hcov

/-- A memref is each part of a disjoint cover. -/
theorem own_parts (X : sh.Idx → Elt F e) :
    (own c m q X : sProp 𝕄) ⊢ bigSep Finset.univ fun t => own c (m.slice (r t) (hs t)) q (fun j => X ((r t).emb j)) :=
  owns_rects (c : Thread nD τ) m q r hs hd hcov X

/-- The parts of a disjoint cover are the memref at the parts' contents glued. -/
theorem own_of_parts (Xs : (t : T) → (r t).shape.Idx → Elt F e) :
    (bigSep Finset.univ fun t => own c (m.slice (r t) (hs t)) q (Xs t) : sProp 𝕄) ⊢ own c m q (Rect.glue r hcov Xs) := by
  have h (t : T) : (fun j => Rect.glue r hcov Xs ((r t).emb j)) = Xs t := funext fun y => Rect.glue_emb r hcov hd Xs t y
  have := owns_of_rects (Ix := Unit) (Name := ℕ) (U := UU) (Lvl := ℕ) (c : Thread nD τ) m q r hs hd hcov (Rect.glue r hcov Xs)
  simp only [h] at this
  exact this

theorem any_parts : (any (F := F) c m q : sProp 𝕄) ⊢ bigSep Finset.univ fun t => any c (m.slice (r t) (hs t)) q := by
  unfold any
  iintro ⟨%X, H⟩
  iapply (show (own c m q X : sProp 𝕄) ⊢ bigSep Finset.univ fun t => iprop(∃ X, own c (m.slice (r t) (hs t)) q X) from
    (own_parts c m q r hs hd hcov X).trans (bigSep_mono fun t _ => own_any c (m.slice (r t) (hs t)) q _))
  iexact H

theorem any_of_parts : (bigSep Finset.univ fun t => any c (m.slice (r t) (hs t)) q : sProp 𝕄) ⊢ any (F := F) c m q := by
  refine (BI.bigSep_exists_pi Finset.univ (fun t X => own (F := F) c (m.slice (r t) (hs t)) q X)).trans ?_
  iintro ⟨%Xs, H⟩
  iapply (own_any (F := F) c m q (Rect.glue r hcov Xs))
  iapply (own_of_parts (F := F) c m q r hs hd hcov Xs)
  iexact H

end Parts

section Pieces

variable (c : Dev nD) (q : PosShare TreeShare)

theorem sep_fin2 (Φ : Fin 2 → sProp 𝕄) : bigSep Finset.univ Φ = iprop(Φ 0 ∗ Φ 1) := by
  rw [bigSep_univ_eq_bigSepL [0, 1] (by decide) (by decide)]; rfl
theorem sep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
theorem sep_blocks (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  rfl

/-- A half of a 256-row memref sliced to a quarter is the memref's quarter. -/
theorem half_quar_emb (h q : Fin 2) (j : S64x1024.Idx) : (hr h).emb ((hq q).emb j) = (qr (qt h q)).emb j := by
  funext a
  apply Fin.ext
  rw [Rect.emb_apply, Rect.emb_apply, Rect.emb_apply]
  revert h q; intro h q
  fin_cases a
  · show 128 * h.val + 1 * (64 * q.val + 1 * (j (0 : Fin 2)).val) = 64 * ((2 * h.val + q.val) % 4) + 1 * (j (0 : Fin 2)).val
    have := h.isLt; have := q.isLt; omega
  · show 0 + 1 * (0 + 1 * (j (1 : Fin 2)).val) = 0 + 1 * (j (1 : Fin 2)).val
    omega

theorem own_half_quar (M : Memref sig .tc sp S256x1024 e) (h q' : Fin 2) (X : S64x1024.Idx → Elt F e) :
    (own c ((half M h).slice (hq q') (fun _ => rfl)) q X : sProp 𝕄) = own c (quar M (qt h q')) q X := by
  have hemb : ((hq q').emb.trans (hr h).emb : S64x1024.Idx ↪ S256x1024.Idx) = (qr (qt h q')).emb :=
    Function.Embedding.ext fun j => half_quar_emb h q' j
  have hset : ((half M h).slice (hq q') (fun _ => rfl)).view.set = (quar M (qt h q')).view.set := by
    show (Finset.univ : Finset S64x1024.Idx).map ((hq q').emb.trans ((hr h).emb.trans M.view.emb))
      = (Finset.univ : Finset S64x1024.Idx).map ((qr (qt h q')).emb.trans M.view.emb)
    rw [← hemb]; rfl
  have hread (f) : ((half M h).slice (hq q') (fun _ => rfl)).view.read (Elt F) f = (quar M (qt h q')).view.read (Elt F) f := by
    funext j
    show _root_.cast _ (f (M.view.emb ((hr h).emb ((hq q').emb j)))) = _root_.cast _ (f (M.view.emb ((qr (qt h q')).emb j)))
    congr 2
    exact congrArg M.view.emb (half_quar_emb h q' j)
  unfold own owns
  refine congrArg _ (funext fun f => ?_)
  rw [hread, hset]

/-- The two quarters of a half glued. -/
def glue2 {β : Type} (Xs : Fin 2 → S64x1024.Idx → β) : S128x1024.Idx → β := Rect.glue hq hq_cov Xs
/-- The two halves of a 256-row array glued. -/
def glueH {β : Type} (Xs : Fin 2 → S128x1024.Idx → β) : S256x1024.Idx → β := Rect.glue hr hr_cov Xs

theorem glue2_emb {β : Type} (Xs : Fin 2 → S64x1024.Idx → β) (q : Fin 2) : (fun j => glue2 Xs ((hq q).emb j)) = Xs q :=
  funext fun j => Rect.glue_emb hq hq_cov hq_disj Xs q j

/-- Two quarters are the half. -/
theorem own_half (M : Memref sig .tc sp S256x1024 e) (h : Fin 2) (Xs : Fin 2 → S64x1024.Idx → Elt F e) :
    iprop(own c (quar M (qt h 0)) q (Xs 0) ∗ own c (quar M (qt h 1)) q (Xs 1)) ⊢ (own c (half M h) q (glue2 Xs) : sProp 𝕄) := by
  rw [← own_half_quar, ← own_half_quar, ← sep_fin2 (fun t => own c ((half M h).slice (hq t) (fun _ => rfl)) q (Xs t))]
  exact own_of_parts c (half M h) q hq (fun _ _ => rfl) hq_disj hq_cov Xs

theorem own_unhalf (M : Memref sig .tc sp S256x1024 e) (h : Fin 2) (X : S128x1024.Idx → Elt F e) :
    (own c (half M h) q X : sProp 𝕄)
      ⊢ iprop(own c (quar M (qt h 0)) q (fun j => X ((hq 0).emb j)) ∗ own c (quar M (qt h 1)) q (fun j => X ((hq 1).emb j))) := by
  have := own_parts (F := F) c (half M h) q hq (fun _ _ => rfl) hq_disj hq_cov X
  rw [sep_fin2] at this
  rw [← own_half_quar, ← own_half_quar]
  exact this

theorem own_unhalf_glue (M : Memref sig .tc sp S256x1024 e) (h : Fin 2) (Xs : Fin 2 → S64x1024.Idx → Elt F e) :
    (own c (half M h) q (glue2 Xs) : sProp 𝕄)
      ⊢ iprop(own c (quar M (qt h 0)) q (Xs 0) ∗ own c (quar M (qt h 1)) q (Xs 1)) := by
  have := own_unhalf (F := F) c q M h (glue2 Xs)
  have h0 := glue2_emb Xs 0
  have h1 := glue2_emb Xs 1
  exact h0 ▸ h1 ▸ this

theorem any_half (M : Memref sig .tc sp S256x1024 e) (h : Fin 2) :
    iprop(any c (quar M (qt h 0)) q ∗ any c (quar M (qt h 1)) q) ⊢ (any (F := F) c (half M h) q : sProp 𝕄) := by
  unfold any
  iintro ⟨⟨%X, HX⟩, ⟨%Y, HY⟩⟩
  iexists (glue2 fun t => if t = 0 then X else Y)
  iapply (own_half c q M h (fun t => if t = 0 then X else Y))
  isplitl [HX]
  · iexact HX
  · iexact HY

/-- A 256-row memref is its four quarters. -/
theorem any_quarters (M : Memref sig .tc sp S256x1024 e) :
    (any (F := F) c M q : sProp 𝕄) ⊢ iprop(any c (quar M 0) q ∗ any c (quar M 1) q ∗ any c (quar M 2) q ∗ any c (quar M 3) q) := by
  rw [← sep_fin4 (fun t => any c (quar M t) q)]
  exact any_parts c M q qr (fun _ _ => rfl) qr_disj qr_cov
theorem any_of_quarters (M : Memref sig .tc sp S256x1024 e) :
    iprop(any c (quar M 0) q ∗ any c (quar M 1) q ∗ any c (quar M 2) q ∗ any c (quar M 3) q) ⊢ (any (F := F) c M q : sProp 𝕄) := by
  rw [← sep_fin4 (fun t => any c (quar M t) q)]
  exact any_of_parts c M q qr (fun _ _ => rfl) qr_disj qr_cov

/-- A 256-row memref is its two halves. -/
theorem any_halves (M : Memref sig .tc sp S256x1024 e) :
    (any (F := F) c M q : sProp 𝕄) ⊢ iprop(any c (half M 0) q ∗ any c (half M 1) q) := by
  rw [← sep_fin2 (fun t => any c (half M t) q)]
  exact any_parts c M q hr (fun _ _ => rfl) hr_disj hr_cov
theorem own_of_halves (M : Memref sig .tc sp S256x1024 e) (Xs : Fin 2 → S128x1024.Idx → Elt F e) :
    iprop(own c (half M 0) q (Xs 0) ∗ own c (half M 1) q (Xs 1)) ⊢ (own c M q (glueH Xs) : sProp 𝕄) := by
  rw [← sep_fin2 (fun t => own c (half M t) q (Xs t))]
  exact own_of_parts c M q hr (fun _ _ => rfl) hr_disj hr_cov Xs

/-! ### Blocks as 64 rows -/

/-- A block's values as 64 rows. -/
abbrev sq {β : EltTy → Type} {e : EltTy} (X : S1x1x64x1024.Idx → β e) : S64x1024.Idx → β e :=
  fun j => X (Shape.reshapeEquiv squeezes_S1x1x64x1024_S64x1024.numel_eq j)
abbrev unsq {β : EltTy → Type} {e : EltTy} (X : S64x1024.Idx → β e) : S1x1x64x1024.Idx → β e :=
  fun j => X (Shape.reshapeEquiv squeezes_S1x1x64x1024_S64x1024.numel_eq.symm j)

theorem own_squeeze (m : Memref sig .tc sp S1x1x64x1024 e) (X : S1x1x64x1024.Idx → Elt F e) :
    (own c (m.squeeze S64x1024 squeezes_S1x1x64x1024_S64x1024) q (sq X) : sProp 𝕄) = own c m q X := by
  unfold own owns
  refine congrArg _ (funext fun f => ?_)
  have h1 : ((m.squeeze S64x1024 squeezes_S1x1x64x1024_S64x1024).view.read (Elt F) f = sq X) = (m.view.read (Elt F) f = X) := by
    refine propext ⟨fun h => funext fun j => ?_, fun h => by subst h; rfl⟩
    have := congrFun h ((Shape.reshapeEquiv squeezes_S1x1x64x1024_S64x1024.numel_eq).symm j)
    simp only [sq, Equiv.apply_symm_apply] at this
    rw [← this]
    show _ = _root_.cast _ (f (m.view.emb (Shape.reshapeEquiv squeezes_S1x1x64x1024_S64x1024.numel_eq ((Shape.reshapeEquiv squeezes_S1x1x64x1024_S64x1024.numel_eq).symm j))))
    rw [Equiv.apply_symm_apply]; rfl
  rw [h1, show (m.squeeze S64x1024 squeezes_S1x1x64x1024_S64x1024).view.set = m.view.set from View.set_reshape _ _]

theorem sq_unsq {β : EltTy → Type} {e : EltTy} (X : S64x1024.Idx → β e) : sq (β := β) (unsq (β := β) X) = X := by
  funext j
  show X _ = X j
  rw [Shape.reshapeEquiv_reshapeEquiv, Shape.reshapeEquiv_self]
theorem unsq_sq {β : EltTy → Type} {e : EltTy} (X : S1x1x64x1024.Idx → β e) : unsq (β := β) (sq (β := β) X) = X := by
  funext j
  show X _ = X j
  rw [Shape.reshapeEquiv_reshapeEquiv, Shape.reshapeEquiv_self]

theorem own_unsqueeze (m : Memref sig .tc sp S1x1x64x1024 e) (X : S64x1024.Idx → Elt F e) :
    (own c (m.squeeze S64x1024 squeezes_S1x1x64x1024_S64x1024) q X : sProp 𝕄) = own c m q (unsq (β := Elt F) X) := by
  rw [← own_squeeze, sq_unsq]

theorem any_squeeze (m : Memref sig .tc sp S1x1x64x1024 e) :
    (any (F := F) c (m.squeeze S64x1024 squeezes_S1x1x64x1024_S64x1024) q : sProp 𝕄) = any c m q := by
  have h1 : (any (F := F) c (m.squeeze S64x1024 squeezes_S1x1x64x1024_S64x1024) q : sProp 𝕄) ⊢ any c m q := by
    unfold any; iintro ⟨%X, H⟩; iexists _; iapply (Entails.of_eq (own_unsqueeze c q m X)); iexact H
  have h2 : (any (F := F) c m q : sProp 𝕄) ⊢ any c (m.squeeze S64x1024 squeezes_S1x1x64x1024_S64x1024) q := by
    unfold any; iintro ⟨%X, H⟩; iexists _; iapply (Entails.of_eq (own_squeeze c q m X).symm); iexact H
  exact BI.equiv_iff.mp ⟨h1, h2⟩

/-- An exchange buffer is its six blocks. -/
theorem any_blocks (M : Memref sig .tc sp S3x2x64x1024 e) :
    (any (F := F) c M q : sProp 𝕄)
      ⊢ iprop(any c (blk M 0 0) q ∗ any c (blk M 0 1) q ∗ any c (blk M 1 0) q ∗ any c (blk M 1 1) q ∗ any c (blk M 2 0) q ∗ any c (blk M 2 1) q) := by
  simp only [any_squeeze]
  rw [← sep_blocks (fun t => any c (M.slice (br t.1 t.2) (fun _ => rfl)) q)]
  exact any_parts c M q (fun t : Fin 3 × Fin 2 => br t.1 t.2) (fun _ _ => rfl) br_disj br_cov
theorem any_of_blocks (M : Memref sig .tc sp S3x2x64x1024 e) :
    iprop(any c (blk M 0 0) q ∗ any c (blk M 0 1) q ∗ any c (blk M 1 0) q ∗ any c (blk M 1 1) q ∗ any c (blk M 2 0) q ∗ any c (blk M 2 1) q)
      ⊢ (any (F := F) c M q : sProp 𝕄) := by
  simp only [any_squeeze]
  rw [← sep_blocks (fun t => any c (M.slice (br t.1 t.2) (fun _ => rfl)) q)]
  exact any_of_parts c M q (fun t : Fin 3 × Fin 2 => br t.1 t.2) (fun _ _ => rfl) br_disj br_cov

end Pieces

/-! ## Loads and stores -/

section Access

variable (c : Dev nD) {cs : CoreSpace} {e : EltTy}

/-- A load of a quarter. -/
theorem load_q {α : Type} {Q : α → sProp 𝕄} (M : Memref sig .tc cs S256x1024 e) (n : Fin 4) {off : Fin 2 → Nat} (hoff : off = ![64 * n.val, 0])
    (q : PosShare TreeShare) (X : S64x1024.Idx → Elt F e) {inb : ∀ a, off a + S64x1024.size a ≤ S256x1024.size a}
    {hl : M.view.LoadsAt (Rect.unit (s := S256x1024) off S64x1024.size inb).toLoadRect}
    {k : (S64x1024.Idx → Elt F e) → Prog (TpuEff nD τ sig (Elt F) Λ₀ .tc) α} :
    (own c (quar M n) q X : sProp 𝕄)
      ⊢ iprop((own c (quar M n) q X -∗ WP c (k X) Q) -∗ WP c (.op (.load M (Rect.unit (s := S256x1024) off S64x1024.size inb).toLoadRect hl) k) Q) := by
  subst hoff; exact own_load_rect c M (qr n) (fun _ => rfl) q X

/-- A load of a half. -/
theorem load_h {α : Type} {Q : α → sProp 𝕄} (M : Memref sig .tc cs S256x1024 e) (n : Fin 2) {off : Fin 2 → Nat} (hoff : off = ![128 * n.val, 0])
    (q : PosShare TreeShare) (X : S128x1024.Idx → Elt F e) {inb : ∀ a, off a + S128x1024.size a ≤ S256x1024.size a}
    {hl : M.view.LoadsAt (Rect.unit (s := S256x1024) off S128x1024.size inb).toLoadRect}
    {k : (S128x1024.Idx → Elt F e) → Prog (TpuEff nD τ sig (Elt F) Λ₀ .tc) α} :
    (own c (half M n) q X : sProp 𝕄)
      ⊢ iprop((own c (half M n) q X -∗ WP c (k X) Q) -∗ WP c (.op (.load M (Rect.unit (s := S256x1024) off S128x1024.size inb).toLoadRect hl) k) Q) := by
  subst hoff; exact own_load_rect c M (hr n) (fun _ => rfl) q X

/-- A load of a block. -/
theorem load_b {α : Type} {Q : α → sProp 𝕄} (M : Memref sig .tc cs S3x2x64x1024 e) (l : Fin 3) (n : Fin 2) {off : Fin 4 → Nat} (hoff : off = ![l.val, n.val, 0, 0])
    (q : PosShare TreeShare) (X : S64x1024.Idx → Elt F e) {inb : ∀ a, off a + S1x1x64x1024.size a ≤ S3x2x64x1024.size a}
    {hl : M.view.LoadsAt (Rect.unit (s := S3x2x64x1024) off S1x1x64x1024.size inb).toLoadRect}
    {k : (S1x1x64x1024.Idx → Elt F e) → Prog (TpuEff nD τ sig (Elt F) Λ₀ .tc) α} :
    (own c (blk M l n) q X : sProp 𝕄)
      ⊢ iprop((own c (blk M l n) q X -∗ WP c (k (unsq (β := Elt F) X)) Q)
        -∗ WP c (.op (.load M (Rect.unit (s := S3x2x64x1024) off S1x1x64x1024.size inb).toLoadRect hl) k) Q) := by
  subst hoff; rw [own_unsqueeze]; exact own_load_rect c M (br l n) (fun _ => rfl) q _

/-- A store to a quarter. -/
theorem store_q {α : Type} {Q : α → sProp 𝕄} (M : Memref sig .tc cs S256x1024 e) (n : Fin 4) {off : Fin 2 → Nat} (hoff : off = ![64 * n.val, 0])
    (w : S64x1024.Idx → Elt F e) {inb : ∀ a, off a + S64x1024.size a ≤ S256x1024.size a}
    {hx : (M.access (Rect.unit (s := S256x1024) off S64x1024.size inb)).Stores Finset.univ} {hm}
    {k : PUnit → Prog (TpuEff nD τ sig (Elt F) Λ₀ .tc) α} :
    (any c (quar M n) fullShare : sProp 𝕄)
      ⊢ iprop((own c (quar M n) fullShare w -∗ WP c (k ⟨⟩) Q)
        -∗ WP c (.op (.store M (Rect.unit (s := S256x1024) off S64x1024.size inb) w Finset.univ hx hm) k) Q) := by
  subst hoff; exact own_store_rect c M (qr n) (fun _ => rfl) w

/-- A store to a half. -/
theorem store_h {α : Type} {Q : α → sProp 𝕄} (M : Memref sig .tc cs S256x1024 e) (n : Fin 2) {off : Fin 2 → Nat} (hoff : off = ![128 * n.val, 0])
    (w : S128x1024.Idx → Elt F e) {inb : ∀ a, off a + S128x1024.size a ≤ S256x1024.size a}
    {hx : (M.access (Rect.unit (s := S256x1024) off S128x1024.size inb)).Stores Finset.univ} {hm}
    {k : PUnit → Prog (TpuEff nD τ sig (Elt F) Λ₀ .tc) α} :
    (any c (half M n) fullShare : sProp 𝕄)
      ⊢ iprop((own c (half M n) fullShare w -∗ WP c (k ⟨⟩) Q)
        -∗ WP c (.op (.store M (Rect.unit (s := S256x1024) off S128x1024.size inb) w Finset.univ hx hm) k) Q) := by
  subst hoff; exact own_store_rect c M (hr n) (fun _ => rfl) w

/-- A store to a block. -/
theorem store_b {α : Type} {Q : α → sProp 𝕄} (M : Memref sig .tc cs S3x2x64x1024 e) (l : Fin 3) (n : Fin 2) {off : Fin 4 → Nat} (hoff : off = ![l.val, n.val, 0, 0])
    (w : S1x1x64x1024.Idx → Elt F e) {inb : ∀ a, off a + S1x1x64x1024.size a ≤ S3x2x64x1024.size a}
    {hx : (M.access (Rect.unit (s := S3x2x64x1024) off S1x1x64x1024.size inb)).Stores Finset.univ} {hm}
    {k : PUnit → Prog (TpuEff nD τ sig (Elt F) Λ₀ .tc) α} :
    (any c (blk M l n) fullShare : sProp 𝕄)
      ⊢ iprop((own c (blk M l n) fullShare (sq (β := Elt F) w) -∗ WP c (k ⟨⟩) Q)
        -∗ WP c (.op (.store M (Rect.unit (s := S3x2x64x1024) off S1x1x64x1024.size inb) w Finset.univ hx hm) k) Q) := by
  subst hoff; rw [own_squeeze, any_squeeze]; exact own_store_rect c M (br l n) (fun _ => rfl) w

theorem emb_zero {s : Shape} (inb : ∀ a, 0 + s.size a ≤ s.size a) (j : s.Idx) :
    (Rect.unit (s := s) (fun _ => 0) s.size inb).emb j = j := by
  funext a; apply Fin.ext; rw [Rect.emb_apply]
  show 0 + 1 * (j a).val = (j a).val; omega

/-- A load of a whole buffer. -/
theorem load_w {α : Type} {Q : α → sProp 𝕄} {s : Shape} (M : Memref sig .tc cs s e) {off : Fin s.rank → Nat} (hoff : off = fun _ => 0)
    (q : PosShare TreeShare) (X : s.Idx → Elt F e) {inb : ∀ a, off a + s.size a ≤ s.size a}
    {hl : M.view.LoadsAt (Rect.unit (s := s) off s.size inb).toLoadRect}
    {k : (s.Idx → Elt F e) → Prog (TpuEff nD τ sig (Elt F) Λ₀ .tc) α} :
    (own c M q X : sProp 𝕄)
      ⊢ iprop((own c M q X -∗ WP c (k X) Q) -∗ WP c (.op (.load M (Rect.unit (s := s) off s.size inb).toLoadRect hl) k) Q) := by
  subst hoff
  unfold own owns
  iintro ⟨%f, %hf, H⟩ K
  subst hf
  iapply (wp_load 𝒱₀ (c : Thread nD τ) none Set.univ (m := M) (r := (Rect.unit (s := s) (fun _ => 0) s.size inb).toLoadRect) (S := M.view.set) (f := f)
    (View.setOn_subset_set _ _)) $$ [H]
  · iexact H
  iintro H
  rw [show M.view.readAt (Elt F) (Rect.unit (s := s) (fun _ => 0) s.size inb).toLoadRect f = M.view.read (Elt F) f from ?_]
  · iapply K
    iexists f; isplitr; · ipureintro; rfl
    iexact H
  · funext j
    show _root_.cast _ (f (M.view.emb ((Rect.unit (s := s) (fun _ => 0) s.size inb).emb j))) = _root_.cast _ (f (M.view.emb j))
    rw [emb_zero]

/-- A store to a whole buffer. -/
theorem store_w {α : Type} {Q : α → sProp 𝕄} {s : Shape} (M : Memref sig .tc cs s e) {off : Fin s.rank → Nat} (hoff : off = fun _ => 0)
    (w : s.Idx → Elt F e) {inb : ∀ a, off a + s.size a ≤ s.size a}
    {hx : (M.access (Rect.unit (s := s) off s.size inb)).Stores Finset.univ} {hm}
    {k : PUnit → Prog (TpuEff nD τ sig (Elt F) Λ₀ .tc) α} :
    (any c M fullShare : sProp 𝕄)
      ⊢ iprop((own c M fullShare w -∗ WP c (k ⟨⟩) Q)
        -∗ WP c (.op (.store M (Rect.unit (s := s) off s.size inb) w Finset.univ hx hm) k) Q) := by
  subst hoff
  unfold any own owns
  have hemb : (M.view.slice (Rect.unit (s := s) (fun _ => 0) s.size inb)).emb = M.view.emb := by
    refine Function.Embedding.ext fun j => ?_
    show M.view.emb ((Rect.unit (s := s) (fun _ => 0) s.size inb).emb j) = M.view.emb j
    rw [emb_zero]
  iintro ⟨%X, %f, -, H⟩ K
  iapply (wp_store 𝒱₀ (c : Thread nD τ) none Set.univ (m := M) (r := Rect.unit (s := s) (fun _ => 0) s.size inb) (w := w) (S := M.view.set) (f := f)
    (show (M.view.slice _).set ⊆ _ from M.view.set_slice_subset _)) $$ [H]
  · iexact H
  iintro H
  iapply K
  iexists _; isplitr
  swap; · iexact H
  ipureintro
  have hw : (M.view.slice (Rect.unit (s := s) (fun _ => 0) s.size inb)).read (Elt F)
      ((M.view.slice (Rect.unit (s := s) (fun _ => 0) s.size inb)).write (Elt F) f w Finset.univ) = w := View.read_write_univ ..
  funext j
  refine Eq.trans ?_ (congrFun hw j)
  have hj : (M.view.slice (Rect.unit (s := s) (fun _ => 0) s.size inb)).emb j = M.view.emb j := by rw [hemb]
  exact congrArg (fun x => _root_.cast (congrArg (Elt F) M.view.elt_eq)
    ((M.view.slice (Rect.unit (s := s) (fun _ => 0) s.size inb)).write (Elt F) f w Finset.univ x)) hj.symm

end Access

end Cert.KernelIdeal.Pf
-- ==== Proof.Spec.lean ====
/-
What every buffer holds, as functions of the memory at launch: the gathered rows, each layer's partial products, the
sums of a pair and of all four devices, the rows of the next layer; and the kernel's store payloads as these.
-/
module

public import proofs.«01_k».proof.Proof.Own
public import Idealize.ShloMosaic.Lib.Pipeline.Value

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI

variable {F : FTy → Type} [FloatOps F]

/-! ## One layer on one block of rows -/

/-- A weight matrix rounded. -/
abbrev trW1 (w : Vec F S1024x2048 .f32) : Vec F S1024x2048 .bf16 := truncf .bf16 w bitsLt_bf16_f32
abbrev trW2 (w : Vec F S2048x1024 .f32) : Vec F S2048x1024 .bf16 := truncf .bf16 w bitsLt_bf16_f32
/-- A block of rows rounded, and back in single precision. -/
abbrev tr (x : Vec F S64x1024 .f32) : Vec F S64x1024 .bf16 := truncf .bf16 x bitsLt_bf16_f32
abbrev ex (x : Vec F S64x1024 .bf16) : Vec F S64x1024 .f32 := extf .f32 x bitsLt_bf16_f32

/-- The first product of a layer. -/
abbrev mm1 (x : Vec F S64x1024 .bf16) (w : Vec F S1024x2048 .bf16) : Vec F S64x2048 .f32 :=
  matmul dot_S64x1024_S1024x2048_S64x2048_1_0_0_1_n_n none x w (constant S64x2048 .f32 0x00000000#32)
/-- The positive part, rounded. -/
abbrev relu (h : Vec F S64x2048 .f32) : Vec F S64x2048 .bf16 :=
  truncf .bf16 (maximumf h (broadcast S64x2048 (Scalar.ofBits .f32 0x00000000#32 : F .f32))) bitsLt_bf16_f32
/-- The second product. -/
abbrev mm2 (h : Vec F S64x2048 .bf16) (w : Vec F S2048x1024 .bf16) : Vec F S64x1024 .f32 :=
  matmul dot_S64x2048_S2048x1024_S64x1024_1_0_0_1_n_n none h w (constant S64x1024 .f32 0x00000000#32)
/-- One layer with a device's blocks of the weights: the positive part of the first product, times the second weights. -/
def mlp (x : Vec F S64x1024 .bf16) (w : Vec F S1024x2048 .bf16) (v : Vec F S2048x1024 .bf16) : Vec F S64x1024 .f32 :=
  mm2 (relu (mm1 x w)) v

/-! ## The contents -/

variable (m : (ℓ : Loc nD τ sig) → Buf (Elt F) ℓ)

/-- Device `c`'s rows of the input, as its staging buffer receives them. -/
def xin (c : Dev nD) : Vec F S64x1024 .f32 := (win0_0.blk (0 : Fin 1)).view.read (Elt F) (m ((c : Thread nD τ).loc main_arg0))

/-- Device `c`'s block of layer `l`'s first weights, and of its second. -/
def w1 (l : ℕ) (c : Dev nD) : Vec F S1024x2048 .f32 :=
  match l with
  | 0 => m ((c : Thread nD τ).loc main_arg1)
  | 1 => m ((c : Thread nD τ).loc main_arg3)
  | _ => m ((c : Thread nD τ).loc main_arg5)
def w2 (l : ℕ) (c : Dev nD) : Vec F S2048x1024 .f32 :=
  match l with
  | 0 => m ((c : Thread nD τ).loc main_arg2)
  | 1 => m ((c : Thread nD τ).loc main_arg4)
  | _ => m ((c : Thread nD τ).loc main_arg6)

set_option backward.proofsInPublic true in
/-- The device whose rows quarter `n` holds, and the quarter device `c`'s rows make. -/
def dv (n : Fin 4) : Dev nD := ⟨n.val, n.isLt⟩
set_option backward.proofsInPublic true in
def xq (c : Dev nD) : Fin 4 := ⟨c.val, c.isLt⟩
theorem dv_xq (c : Dev nD) : dv (xq c) = c := rfl

/-- The parity of a layer: which half a device keeps. -/
def par (l : ℕ) : Fin 2 := if l = 1 then 1 else 0
set_option backward.proofsInPublic true in
/-- The half quarter `n` lies in. -/
def hf (n : Fin 4) : Fin 2 := ⟨n.val / 2, by have := n.isLt; omega⟩
theorem hf_qt (h q : Fin 2) : hf (qt h q) = h := by revert h q; decide
theorem hf_kq (p q : Fin 2) (c : Dev nD) : hf (kq p q c) = kh p c := hf_qt _ _

/-- Rows per device and quarter, as the devices hold them. -/
abbrev Rows (F : FTy → Type) : Type := Dev nD → Fin 4 → Vec F S64x1024 .bf16

section Layer
variable (X : Rows F) (l : ℕ) (c : Dev nD) (n : Fin 4)
/-- Device `c`'s partial product of quarter `n`. -/
def hidOf : Vec F S64x1024 .f32 := mlp (X c n) (trW1 (w1 m l c)) (trW2 (w2 m l c))
/-- The sum over a pair of first partners. -/
def accOf : Vec F S64x1024 .f32 := addf (hidOf m X l c n) (ex (tr (hidOf m X l (p1 c) n)))
/-- The sum over all four devices. -/
def resOf : Vec F S64x1024 .f32 := addf (accOf m X l c n) (ex (tr (accOf m X l (p2 c) n)))
/-- The next layer's rows: a device's own sums on the half it keeps, its first partner's on the other. -/
def nextOf : Vec F S64x1024 .bf16 := tr (resOf m X l (if hf n = kh (par l) c then c else p1 c) n)
end Layer

/-- Layer `l`'s rows. -/
def xv : ℕ → Rows F
  | 0 => fun _ n => tr (xin m (dv n))
  | l + 1 => nextOf m (xv l) l
def hid (l : ℕ) (c : Dev nD) (n : Fin 4) : Vec F S64x1024 .f32 := hidOf m (xv m l) l c n
def acc (l : ℕ) (c : Dev nD) (n : Fin 4) : Vec F S64x1024 .f32 := accOf m (xv m l) l c n
def res (l : ℕ) (c : Dev nD) (n : Fin 4) : Vec F S64x1024 .f32 := resOf m (xv m l) l c n

theorem xv_keep (l : ℕ) (q : Fin 2) (c : Dev nD) : xv m (l + 1) c (kq (par l) q c) = tr (res m l c (kq (par l) q c)) := by
  show nextOf m (xv m l) l c _ = _
  unfold nextOf; rw [if_pos (hf_kq _ _ _)]; rfl

theorem kh_flip (p : Fin 2) (c : Dev nD) : kh (1 - p) c ≠ kh p c := by revert p c; decide

theorem xv_other (l : ℕ) (q : Fin 2) (c : Dev nD) :
    xv m (l + 1) c (kq (1 - par l) q c) = tr (res m l (p1 c) (kq (1 - par l) q c)) := by
  show nextOf m (xv m l) l c _ = _
  unfold nextOf; rw [if_neg (by rw [hf_kq]; exact kh_flip _ _)]; rfl

/-- The kernel's result on device `c`: on the half it keeps its own sums, on the other its first partner's rounded. -/
def finOut (c : Dev nD) : Vec F S256x1024 .f32 :=
  glueH fun h => if h = kh 0 c then glue2 (fun q => res m 2 c (qt h q))
    else extf .f32 (glue2 (fun q => xv m 3 c (qt h q)) : Vec F S128x1024 .bf16) bitsLt_bf16_f32

/-! ## The store payloads as these functions -/

section Pay
theorem sc64 {e : EltTy} (x : S64x1024.Idx → Elt F e) (h) : shapeCast S64x1024 x h = x := shapeCast_self x h
theorem sq_sc {e : EltTy} (x : S64x1024.Idx → Elt F e) (h) : sq (β := Elt F) (e := e) (shapeCast S1x1x64x1024 x h) = x := sq_unsq x
theorem sc_unsq {e : EltTy} (x : S64x1024.Idx → Elt F e) (h) : shapeCast S64x1024 (unsq (β := Elt F) (e := e) x) h = x := sq_unsq x

variable (x : Vec F S64x1024 .bf16) (a : Vec F S64x1024 .f32) (w : Vec F S1024x2048 .bf16) (v : Vec F S2048x1024 .bf16)
  (b : Vec F S1024x2048 .f32) (d : Vec F S2048x1024 .f32)

theorem pay2_eq : k0_pay2 a = tr a := by unfold k0_pay2; simp only [shapeCast_self]
theorem pay3_eq : k0_pay3 b = trW1 b :=
  shapeCast_self (trW1 b : Vec F S1024x2048 .bf16) _
theorem pay14_eq : k0_pay14 b = trW1 b :=
  shapeCast_self (trW1 b : Vec F S1024x2048 .bf16) _
theorem pay30_eq : k0_pay30 b = trW1 b :=
  shapeCast_self (trW1 b : Vec F S1024x2048 .bf16) _
theorem pay4_eq : k0_pay4 d = trW2 d :=
  shapeCast_self (trW2 d : Vec F S2048x1024 .bf16) _
theorem pay15_eq : k0_pay15 d = trW2 d :=
  shapeCast_self (trW2 d : Vec F S2048x1024 .bf16) _
theorem pay32_eq : k0_pay32 (k0_pay31 d) = trW2 d :=
  shapeCast_self (trW2 d : Vec F S2048x1024 .bf16) _
theorem pay5_eq : sq (β := Elt F) (e := .bf16) (k0_pay5 x w v) = tr (mlp x w v) :=
  (congrArg (sq (β := Elt F) (e := .bf16)) (show k0_pay5 x w v = shapeCast S1x1x64x1024 (tr (mlp x w v)) shapeCasts_S64x1024_S1x1x64x1024 from rfl)).trans (sq_sc _ _)
theorem pay19_eq : sq (β := Elt F) (e := .bf16) (k0_pay19 x w v) = tr (mlp x w v) :=
  (congrArg (sq (β := Elt F) (e := .bf16)) (show k0_pay19 x w v = shapeCast S1x1x64x1024 (tr (mlp x w v)) shapeCasts_S64x1024_S1x1x64x1024 from rfl)).trans (sq_sc _ _)
theorem pay35_eq : sq (β := Elt F) (e := .bf16) (k0_pay35 x w v) = tr (mlp x w v) :=
  (congrArg (sq (β := Elt F) (e := .bf16)) (show k0_pay35 x w v = shapeCast S1x1x64x1024 (tr (mlp x w v)) shapeCasts_S64x1024_S1x1x64x1024 from rfl)).trans (sq_sc _ _)
theorem pay7_eq : sq (β := Elt F) (e := .bf16) (k0_pay7 (k0_pay6 x w v)) = tr (mlp x w v) :=
  (congrArg (sq (β := Elt F) (e := .bf16)) (show k0_pay7 (k0_pay6 x w v) = shapeCast S1x1x64x1024 (tr (mlp x w v)) shapeCasts_S64x1024_S1x1x64x1024 from rfl)).trans (sq_sc _ _)
theorem pay37_eq : sq (β := Elt F) (e := .bf16) (k0_pay37 (k0_pay36 x w v)) = tr (mlp x w v) :=
  (congrArg (sq (β := Elt F) (e := .bf16)) (show k0_pay37 (k0_pay36 x w v) = shapeCast S1x1x64x1024 (tr (mlp x w v)) shapeCasts_S64x1024_S1x1x64x1024 from rfl)).trans (sq_sc _ _)
theorem pay21_eq : sq (β := Elt F) (e := .bf16) (k0_pay21 (k0_pay20 x w) v) = tr (mlp x w v) :=
  (congrArg (sq (β := Elt F) (e := .bf16)) (show k0_pay21 (k0_pay20 x w) v = shapeCast S1x1x64x1024 (tr (mlp x w v)) shapeCasts_S64x1024_S1x1x64x1024 from rfl)).trans (sq_sc _ _)
theorem pay8_eq : k0_pay8 x w v = mlp x w v :=
  shapeCast_self (mlp x w v : Vec F S64x1024 .f32) _
theorem pay9_eq : k0_pay9 x w v = mlp x w v :=
  shapeCast_self (mlp x w v : Vec F S64x1024 .f32) _
theorem pay24_eq : k0_pay24 x w v = mlp x w v :=
  shapeCast_self (mlp x w v : Vec F S64x1024 .f32) _
theorem pay40_eq : k0_pay40 x w v = mlp x w v :=
  shapeCast_self (mlp x w v : Vec F S64x1024 .f32) _
theorem pay39_eq : k0_pay39 (k0_pay38 x w) v = mlp x w v :=
  shapeCast_self (mlp x w v : Vec F S64x1024 .f32) _
theorem pay23_eq : k0_pay23 (k0_pay22 x w) (Scalar.ofBits .f32 0x00000000#32) v = mlp x w v :=
  shapeCast_self (mlp x w v : Vec F S64x1024 .f32) _
theorem pay10_eq : k0_pay10 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay12_eq : k0_pay12 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay25_eq : k0_pay25 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay41_eq : k0_pay41 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay43_eq : k0_pay43 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay46_eq : k0_pay46 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay48_eq : k0_pay48 a (unsq (β := Elt F) (e := .bf16) x) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay28_eq : k0_pay28 a (k0_pay27 (unsq (β := Elt F) (e := .bf16) x)) = addf a (ex x) :=
  (shapeCast_self (addf a (ex (shapeCast S64x1024 (unsq (β := Elt F) (e := .bf16) x) shapeCasts_S1x1x64x1024_S64x1024)) : Vec F S64x1024 .f32) _).trans
    (congrArg (fun y => addf a (ex y)) (sc_unsq x _))
theorem pay11_eq : k0_pay11 a = tr a :=
  shapeCast_self (tr a : Vec F S64x1024 .bf16) _
theorem pay13_eq : k0_pay13 a = tr a :=
  shapeCast_self (tr a : Vec F S64x1024 .bf16) _
theorem pay26_eq : k0_pay26 a = tr a :=
  shapeCast_self (tr a : Vec F S64x1024 .bf16) _
theorem pay29_eq : k0_pay29 a = tr a :=
  shapeCast_self (tr a : Vec F S64x1024 .bf16) _
theorem pay42_eq : k0_pay42 a = tr a :=
  shapeCast_self (tr a : Vec F S64x1024 .bf16) _
theorem pay47_eq : k0_pay47 a = tr a :=
  shapeCast_self (tr a : Vec F S64x1024 .bf16) _
theorem pay49_eq : k0_pay49 a = tr a :=
  shapeCast_self (tr a : Vec F S64x1024 .bf16) _
theorem pay45_eq : k0_pay45 (k0_pay44 a) = tr a :=
  shapeCast_self (tr a : Vec F S64x1024 .bf16) _
theorem pay16_eq : k0_pay16 a (unsq (β := Elt F) (e := .bf16) x) = tr (addf a (ex x)) :=
  (shapeCast_self (tr (addf a (ex (shapeCast S64x1024 (unsq (β := Elt F) (e := .bf16) x) shapeCasts_S1x1x64x1024_S64x1024))) : Vec F S64x1024 .bf16) _).trans
    (congrArg (fun y => tr (addf a (ex y))) (sc_unsq x _))
theorem pay33_eq : k0_pay33 a (unsq (β := Elt F) (e := .bf16) x) = tr (addf a (ex x)) :=
  (shapeCast_self (tr (addf a (ex (shapeCast S64x1024 (unsq (β := Elt F) (e := .bf16) x) shapeCasts_S1x1x64x1024_S64x1024))) : Vec F S64x1024 .bf16) _).trans
    (congrArg (fun y => tr (addf a (ex y))) (sc_unsq x _))
theorem pay34_eq : k0_pay34 a (unsq (β := Elt F) (e := .bf16) x) = tr (addf a (ex x)) :=
  (shapeCast_self (tr (addf a (ex (shapeCast S64x1024 (unsq (β := Elt F) (e := .bf16) x) shapeCasts_S1x1x64x1024_S64x1024))) : Vec F S64x1024 .bf16) _).trans
    (congrArg (fun y => tr (addf a (ex y))) (sc_unsq x _))
theorem pay18_eq : k0_pay18 (k0_pay17 a (unsq (β := Elt F) (e := .bf16) x)) = tr (addf a (ex x)) :=
  (shapeCast_self (tr (addf a (ex (shapeCast S64x1024 (unsq (β := Elt F) (e := .bf16) x) shapeCasts_S1x1x64x1024_S64x1024))) : Vec F S64x1024 .bf16) _).trans
    (congrArg (fun y => tr (addf a (ex y))) (sc_unsq x _))
end Pay

end Cert.KernelIdeal.Pf
-- ==== Proof.Sched.lean ====
/-
The exchanges' schedule: twenty transfers between partners, each with its own pair of semaphores, after one barrier.
Every cell has one round; what each landing hands over is stated with its contents.
-/
module

public import proofs.«01_k».proof.Proof.Spec

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev Bx : Memref sig .tc .vmem S64x1024 .f32 := Memref.whole cc0_stg0_0
abbrev Bo : Memref sig .tc .vmem S256x1024 .f32 := Memref.whole cc0_stg1_0
abbrev Xm : Memref sig .tc .vmem S256x1024 .bf16 := Memref.whole cc0_scratch0
abbrev Am : Memref sig .tc .vmem S256x1024 .f32 := Memref.whole cc0_scratch1
abbrev S1m : Memref sig .tc .vmem S3x2x64x1024 .bf16 := Memref.whole cc0_scratch2
abbrev R1m : Memref sig .tc .vmem S3x2x64x1024 .bf16 := Memref.whole cc0_scratch3
abbrev R2m : Memref sig .tc .vmem S3x2x64x1024 .bf16 := Memref.whole cc0_scratch4
abbrev U1m : Memref sig .tc .vmem S1024x2048 .f32 := Memref.whole cc0_scratch5
abbrev U2m : Memref sig .tc .vmem S2048x1024 .f32 := Memref.whole cc0_scratch6
abbrev V1m : Memref sig .tc .vmem S1024x2048 .bf16 := Memref.whole cc0_scratch7
abbrev V2m : Memref sig .tc .vmem S2048x1024 .bf16 := Memref.whole cc0_scratch8

/-! ## The transfers -/

/-- The kinds of transfer: the two of the gathering; per layer and quarter, the partial product to the first partner,
    the pair's sum to the second, the next rows to the first. -/
inductive Xk where
  | g1 | g2
  | a1 (l : Fin 3) (q : Fin 2)
  | a2 (l : Fin 3) (q : Fin 2)
  | a3 (l : Fin 3) (q : Fin 2)

/-- The kind of transfer number `i`. -/
def kind : Fin 20 → Xk := ![.g1, .g2,
  .a1 0 0, .a1 0 1, .a2 0 0, .a2 0 1, .a3 0 0, .a3 0 1,
  .a1 1 0, .a1 1 1, .a2 1 0, .a2 1 1, .a3 1 0, .a3 1 1,
  .a1 2 0, .a1 2 1, .a2 2 0, .a2 2 1, .a3 2 0, .a3 2 1]

/-- The device a transfer goes to, and comes from. -/
def peerK (k : Xk) (c : Dev nD) : Dev nD :=
  match k with
  | .g1 => p1 c
  | .g2 => p2 c
  | .a1 _ _ => p1 c
  | .a2 _ _ => p2 c
  | .a3 _ _ => p1 c
abbrev peer (i : Fin 20) (c : Dev nD) : Dev nD := peerK (kind i) c
theorem peer_peer (i : Fin 20) (c : Dev nD) : peer i (peer i c) = c := by
  unfold peer; cases kind i <;> first | exact p1_p1 c | exact p2_p2 c

/-- The barrier's semaphore and a transfer's two. -/
abbrev barS : Sem sig := (SemArray.scalar (sig.barrier 0 rfl) : Sems sig S_).sem
set_option backward.proofsInPublic true in
def sS (i : Fin 20) : DmaSem sig := ⟨4 + i.val, by have := i.isLt; show 4 + i.val < 44; omega⟩
set_option backward.proofsInPublic true in
def rS (i : Fin 20) : DmaSem sig := ⟨24 + i.val, by have := i.isLt; show 24 + i.val < 44; omega⟩

abbrev barCell (c : Dev nD) : GSem nD τ sig := ((c : Thread nD τ), .reg barS)
abbrev sCell (i : Fin 20) (c : Dev nD) : GSem nD τ sig := ((c : Thread nD τ), .dma (sS i))
abbrev rCell (i : Fin 20) (c : Dev nD) : GSem nD τ sig := ((c : Thread nD τ), .dma (rS i))

/-- What a semaphore is for. -/
inductive Role where
  | bar | snd (i : Fin 20) | rcv (i : Fin 20) | loc

set_option backward.proofsInPublic true in
def role : SemLoc sig → Role
  | .reg _ => .bar
  | .dma x => if h : 24 ≤ x.val then .rcv ⟨x.val - 24, by have : x.val < 44 := x.isLt; omega⟩
    else if h' : 4 ≤ x.val then .snd ⟨x.val - 4, by omega⟩ else .loc

theorem role_snd (i : Fin 20) : role (.dma (sS i)) = .snd i := by fin_cases i <;> rfl
theorem role_rcv (i : Fin 20) : role (.dma (rS i)) = .rcv i := by fin_cases i <;> rfl
theorem role_bar : role (.reg barS) = .bar := rfl

/-- The units of a transfer of 64 rows, and of one of 128. -/
abbrev N64 : ℕ := (quar Xm 0).view.dmaCredit
abbrev N128 : ℕ := (half Xm 0).view.dmaCredit
def NN (i : Fin 20) : ℕ := if i = 1 then N128 else N64
theorem NN_pos (i : Fin 20) : 0 < NN i := by
  unfold NN; split
  · exact View.dmaCredit_pos _ (by decide)
  · exact View.dmaCredit_pos _ (by decide)

/-! ## What the landings hand over -/

variable (m : (ℓ : Loc nD τ sig) → Buf (Elt F) ℓ)

/-- The share of its source quarter a device passes on with a partial product: from the second layer on it lent the
    other half when the quarter's rows were sent to it. -/
def shr (l : Fin 3) : PosShare TreeShare := if l = 0 then fullShare else fullShare.left

/-- The rows of a half at the start. -/
abbrev half0 (c : Dev nD) (h : Fin 2) : Vec F S128x1024 .bf16 := glue2 fun q => xv m 0 c (qt h q)

/-- The layer's kept half. -/
abbrev parF (l : Fin 3) : Fin 2 := par l.val

/-- What device `d` finds landed. -/
def recvPay (k : Xk) (d : Dev nD) : sProp 𝕄 :=
  match k with
  | .g1 => own d (quar Xm (xq (p1 d))) fullShare (xv m 0 d (xq (p1 d)))
  | .g2 => own d (half Xm (gh (p2 d))) fullShare (half0 m d (gh (p2 d)))
  | .a1 l q => iprop(own d (blk R1m l q) fullShare (tr (hid m l.val (p1 d) (kq (parF l) q d)))
      ∗ any (p1 d) (quar Xm (kq (parF l) q d)) (shr l))
  | .a2 l q => own d (blk R2m l q) fullShare (tr (acc m l.val (p2 d) (kq (parF l) q d)))
  | .a3 l q => iprop(own d (quar Xm (kq (1 - parF l) q d)) fullShare (xv m (l.val + 1) d (kq (1 - parF l) q d))
      ∗ (if l = 2 then iprop(emp) else any (p1 d) (quar Xm (kq (1 - parF l) q d)) fullShare.right))

/-- What device `c` has back once its transfer has been read out. -/
def sendPay (k : Xk) (c : Dev nD) : sProp 𝕄 :=
  match k with
  | .g1 => own c (quar Xm (xq c)) fullShare (xv m 0 c (xq c))
  | .g2 => own c (half Xm (gh c)) fullShare (half0 m c (gh c))
  | .a1 l q => any c (blk S1m l q) fullShare
  | .a2 l q => any c (quar Xm (kq (parF l) q c)) fullShare
  | .a3 l q => if l = 2 then any c (quar Xm (kq (parF l) q c)) fullShare else iprop(emp)

/-- What the first partner's signal brings device `d`, and the second's: the buffers `d` will write there. -/
def barPay1 (d : Dev nD) : sProp 𝕄 := iprop(any (p1 d) (quar Xm (xq d)) fullShare ∗ any (p1 d) R1m fullShare)
def barPay2 (d : Dev nD) : sProp 𝕄 := iprop(any (p2 d) (half Xm (gh d)) fullShare ∗ any (p2 d) R2m fullShare)

instance recvPay_storable (k : Xk) (d : Dev nD) : BI.Storable (upEmb : UEmb _ 𝕄) (recvPay m k d) := by
  unfold recvPay; (repeat' split) <;> infer_instance
instance sendPay_storable (k : Xk) (d : Dev nD) : BI.Storable (upEmb : UEmb _ 𝕄) (sendPay m k d) := by
  unfold sendPay; (repeat' split) <;> infer_instance

/-- One round, round 0: a barrier cell has two duties of one unit, a transfer's cell the duty `false` of its units. -/
def Rd : Rounds.Schedule (GSem nD τ sig) Bool 𝕄 where
  duties g r := if r = 0 ∧ g.1.2 = .tc then
      (match role g.2 with | .bar => Finset.univ | .snd _ => {false} | .rcv _ => {false} | .loc => ∅) else ∅
  unitless _ := False
  amount g _ _ := match role g.2 with | .bar => 1 | .snd i => NN i | .rcv i => NN i | .loc => 1
  payload g _ d := match role g.2 with
    | .bar => if d then barPay2 g.1.1 else barPay1 g.1.1
    | .snd i => sendPay m (kind i) g.1.1
    | .rcv i => recvPay m (kind i) g.1.1
    | .loc => iprop(emp)
  amount_pos g _ _ _ := by
    cases role g.2 with
    | bar => exact Nat.one_pos
    | snd i => exact NN_pos i
    | rcv i => exact NN_pos i
    | loc => exact Nat.one_pos

instance Rd_storable (g : GSem nD τ sig) (r : ℕ) (d : Bool) :
    BI.Storable (upEmb : UEmb _ 𝕄) ((Rd (F := F) m).payload g r d) := by
  show BI.Storable upEmb (match role g.2 with
    | .bar => if d then barPay2 g.1.1 else barPay1 g.1.1
    | .snd i => sendPay m (kind i) g.1.1
    | .rcv i => recvPay m (kind i) g.1.1
    | .loc => iprop(emp))
  unfold barPay1 barPay2
  (repeat' split) <;> infer_instance

section Tables
variable (c : Dev nD) (i : Fin 20)

theorem duties_bar : (Rd (F := F) m).duties (barCell c) 0 = Finset.univ := by
  dsimp only [Rd]; rw [if_pos ⟨rfl, rfl⟩]; rfl
theorem duties_snd : (Rd (F := F) m).duties (sCell i c) 0 = {false} := by
  dsimp only [Rd]; rw [if_pos ⟨rfl, rfl⟩, role_snd]
theorem duties_rcv : (Rd (F := F) m).duties (rCell i c) 0 = {false} := by
  dsimp only [Rd]; rw [if_pos ⟨rfl, rfl⟩, role_rcv]
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_snd (d : Bool) : (Rd (F := F) m).amount (sCell i c) 0 d = NN i := by dsimp only [Rd]; rw [role_snd]
theorem amount_rcv (d : Bool) : (Rd (F := F) m).amount (rCell i c) 0 d = NN i := by dsimp only [Rd]; rw [role_rcv]

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd : (Rd (F := F) m).expect (sCell i c) 0 = NN i := by
  unfold Schedule.expect Schedule.amountOf; rw [duties_snd, Finset.sum_singleton, amount_snd]
theorem expect_rcv : (Rd (F := F) m).expect (rCell i c) 0 = NN i := by
  unfold Schedule.expect Schedule.amountOf; rw [duties_rcv, Finset.sum_singleton, amount_rcv]

theorem payload_bar1 : (Rd (F := F) m).payload (barCell c) 0 false = barPay1 c := rfl
theorem payload_bar2 : (Rd (F := F) m).payload (barCell c) 0 true = barPay2 c := rfl
theorem payload_snd (d : Bool) : (Rd (F := F) m).payload (sCell i c) 0 d = sendPay m (kind i) c := by dsimp only [Rd]; rw [role_snd]
theorem payload_rcv (d : Bool) : (Rd (F := F) m).payload (rCell i c) 0 d = recvPay m (kind i) c := by dsimp only [Rd]; rw [role_rcv]

theorem rest_bar : bigSep ((Rd (F := F) m).duties (barCell c) 0 \ ∅) (fun d => (Rd (F := F) m).payload (barCell c) 0 d)
    = iprop(barPay1 c ∗ barPay2 c) := by
  rw [Finset.sdiff_empty, duties_bar, bigSep_univ_eq_bigSepL [false, true] (by decide) (by decide), bigSepL_cons_cons, bigSepL_singleton]
  rfl
theorem rest_snd : bigSep ((Rd (F := F) m).duties (sCell i c) 0 \ ∅) (fun d => (Rd (F := F) m).payload (sCell i c) 0 d) = sendPay m (kind i) c := by
  rw [Finset.sdiff_empty, duties_snd, bigSep_singleton, payload_snd]
theorem rest_rcv : bigSep ((Rd (F := F) m).duties (rCell i c) 0 \ ∅) (fun d => (Rd (F := F) m).payload (rCell i c) 0 d) = recvPay m (kind i) c := by
  rw [Finset.sdiff_empty, duties_rcv, bigSep_singleton, payload_rcv]

end Tables

/-! ## What each device owes; the levels -/

/-- The units device `c` still owes at its partners' receive cells once it has issued the transfers before number `k`. -/
def owed (c : Dev nD) (k : ℕ) : CellTallies nD τ sig Unit :=
  ∑ i : Fin 20, if k ≤ i.val then tallyAt (rCell i (peer i c)) () (NN i) else 0

theorem owed_peel (c : Dev nD) (i : Fin 20) : owed c i.val = owed c (i.val + 1) + tallyAt (rCell i (peer i c)) () (NN i) := by
  unfold owed
  rw [← Finset.sum_erase_add _ _ (Finset.mem_univ i), ← Finset.sum_erase_add (Finset.univ : Finset (Fin 20)) _ (Finset.mem_univ i),
    if_pos (le_refl _), if_neg (show ¬ (i.val + 1 ≤ i.val) by omega), add_zero]
  congr 1
  refine Finset.sum_congr rfl fun j hj => ?_
  have hji : j.val ≠ i.val := fun h => (Finset.mem_erase.mp hj).1 (Fin.ext h)
  by_cases h : i.val ≤ j.val
  · rw [if_pos h, if_pos (by omega)]
  · rw [if_neg h, if_neg (by omega)]

theorem owed_end (c : Dev nD) : owed c 20 = 0 := by
  unfold owed
  refine Finset.sum_eq_zero fun i _ => if_neg ?_
  have := i.isLt; omega

theorem owed_pos {c : Dev nD} {k : ℕ} {g : GSem nD τ sig} {u : Unit} (h : 0 < owed c k g u) :
    ∃ i : Fin 20, k ≤ i.val ∧ g = rCell i (peer i c) := by
  unfold owed at h
  rw [Finset.sum_apply, Finsupp.finset_sum_apply] at h
  obtain ⟨i, -, hi⟩ := Finset.exists_ne_zero_of_sum_ne_zero (Nat.pos_iff_ne_zero.mp h)
  refine ⟨i, ?_⟩
  by_cases hk : k ≤ i.val
  · rw [if_pos hk, tallyAt_apply] at hi
    refine ⟨hk, ?_⟩
    by_contra hne
    exact hi (if_neg fun h' => hne h'.1)
  · rw [if_neg hk] at hi; exact absurd rfl hi

/-- What device `c` owes at launch: every transfer's units, and one unit at each partner's barrier. -/
def O₁ (c : Dev nD) : CellTallies nD τ sig Unit := owed c 0 + tallyAt (barCell (p2 c)) () 1
def O₀ (c : Dev nD) : CellTallies nD τ sig Unit := O₁ c + tallyAt (barCell (p1 c)) () 1

def L (g : GSem nD τ sig) : Finset Unit := if g.1.2 = .tc then {()} else ∅
/-- Barrier cells at 1, the receive cell of transfer `i` at `2 + i`, every other at 0. -/
def lv (g : GSem nD τ sig) (_ : Unit) : ℕ := match role g.2 with | .bar => 1 | .rcv i => 2 + i.val | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_rcv (i : Fin 20) (c : Dev nD) : lv (rCell i c) () = 2 + i.val := by unfold lv; rw [role_rcv]
theorem lv_snd (i : Fin 20) (c : Dev nD) : lv (sCell i c) () = 0 := by unfold lv; rw [role_snd]

theorem O₀_pos {c : Dev nD} {g : GSem nD τ sig} {u : Unit} (h : 0 < O₀ c g u) :
    (∃ i : Fin 20, g = rCell i (peer i c)) ∨ g = barCell (p2 c) ∨ g = barCell (p1 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨i, -, hi⟩ := owed_pos (by simpa using h)
  exact hn.1 ⟨i, hi⟩

/-- A wait at level `n` is allowed when only later transfers are owed. -/
theorem mayWait_owed (c : Dev nD) (sm : SemLoc sig) (k n : ℕ) (hl : lv ((c : Thread nD τ), sm) () ≤ n) (hn : n < 2 + k) :
    (levAts L lv : sProp 𝕄) ⊢ MayWait (c : Thread nD τ) sm () (owed c k) :=
  MayOwe.of_cut (L := L) (lev := lv) n (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact hl)
    (fun g u hg => by obtain ⟨i, hk, rfl⟩ := owed_pos hg; rw [show u = () from rfl, lv_rcv]; omega)

/-- A wait at level 0 is allowed with everything owed. -/
theorem mayWait_low (c : Dev nD) (sm : SemLoc sig) (hl : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | rfl | rfl <;> exact Finset.mem_singleton_self _)
      (fun p hp => by rw [Finset.mem_singleton.mp hp]; exact le_of_eq hl)
      (fun g u hg => by
        rcases O₀_pos hg with ⟨i, rfl⟩ | rfl | rfl
        · rw [show u = () from rfl, lv_rcv]; omega
        · exact Nat.one_pos
        · exact Nat.one_pos)
  · rw [MayWait_zero]; iintro -; iempintro

end Cert.KernelIdeal.Pf
-- ==== Proof.Steps.lean ====
/-
One exchange's four states on a device (to send, in the air, read out, landed) and the steps between them: the send of
each kind of transfer, the wait for its read-out, the wait for its landing; and the copies of the weights from the
device's own memory.
-/
module

public import proofs.«01_k».proof.Proof.Sched
public import Idealize.ShloMosaic.Lib.Transfers

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, numbered -/

set_option backward.proofsInPublic true in
/-- A device's cells: the barrier's, the send cells, the receive cells. -/
def csem (k : Fin 41) : SemLoc sig :=
  if h : k.val = 0 then .reg barS else .dma ⟨k.val + 3, by have := k.isLt; show k.val + 3 < 44; omega⟩
abbrev kcell (ck : Dev nD × Fin 41) : GSem nD τ sig := ((ck.1 : Thread nD τ), csem ck.2)
set_option backward.proofsInPublic true in
def sIx (i : Fin 20) : Fin 41 := ⟨i.val + 1, by omega⟩
set_option backward.proofsInPublic true in
def rIx (i : Fin 20) : Fin 41 := ⟨i.val + 21, by omega⟩
theorem csem_s (i : Fin 20) : csem (sIx i) = .dma (sS i) := by
  unfold csem sIx sS; rw [dif_neg (by simp)]; exact congrArg _ (Fin.ext (by show i.val + 1 + 3 = 4 + i.val; omega))
theorem csem_r (i : Fin 20) : csem (rIx i) = .dma (rS i) := by
  unfold csem rIx rS; rw [dif_neg (by simp)]; exact congrArg _ (Fin.ext (by show i.val + 21 + 3 = 24 + i.val; omega))

variable (m : (ℓ : Loc nD τ sig) → Buf (Elt F) ℓ) (K : Dev nD × Fin 41 → ℕ)

/-- What every device knows: every cell's invariant, that every cell's round has begun, and the levels. -/
def recs : sProp 𝕄 :=
  iprop((bigSep Finset.univ fun ck : Dev nD × Fin 41 => cellInv ER (Rd m) (K ck) (kcell ck))
    ∗ (bigSep Finset.univ fun ck : Dev nD × Fin 41 => reached ER (kcell ck) 0) ∗ levAts L lv)

instance recs_persistent : BI.Persistent (recs m K) := by unfold recs; infer_instance

theorem recs_inv (ck : Dev nD × Fin 41) : recs m K ⊢ cellInv ER (Rd m) (K ck) (kcell ck) := by
  unfold recs
  exact sep_elim_left.trans (bigSep_elim (Φ := fun ck : Dev nD × Fin 41 => (cellInv ER (Rd m) (K ck) (kcell ck) : sProp 𝕄)) (Finset.mem_univ ck))
theorem recs_reached (ck : Dev nD × Fin 41) : recs m K ⊢ reached ER (kcell ck) 0 := by
  unfold recs
  exact sep_elim_right.trans (sep_elim_left.trans
    (bigSep_elim (Φ := fun ck : Dev nD × Fin 41 => (reached ER (kcell ck) 0 : sProp 𝕄)) (Finset.mem_univ ck)))
theorem recs_lev : recs m K ⊢ levAts L lv := by
  unfold recs; iintro ⟨-, -, H⟩; iexact H

theorem inv_s (i : Fin 20) (c : Dev nD) : recs m K ⊢ cellInv ER (Rd m) (K (c, sIx i)) (sCell i c) := by
  have h := recs_inv m K (c, sIx i)
  unfold kcell at h; dsimp only at h; rw [csem_s] at h; exact h
theorem inv_r (i : Fin 20) (c : Dev nD) : recs m K ⊢ cellInv ER (Rd m) (K (c, rIx i)) (rCell i c) := by
  have h := recs_inv m K (c, rIx i)
  unfold kcell at h; dsimp only at h; rw [csem_r] at h; exact h
theorem inv_b (c : Dev nD) : recs m K ⊢ cellInv ER (Rd m) (K (c, 0)) (barCell c) := recs_inv m K (c, 0)
theorem reached_s (i : Fin 20) (c : Dev nD) : recs m K ⊢ reached ER (sCell i c) 0 := by
  have h := recs_reached m K (c, sIx i)
  unfold kcell at h; dsimp only at h; rw [csem_s] at h; exact h
theorem reached_r (i : Fin 20) (c : Dev nD) : recs m K ⊢ reached ER (rCell i c) 0 := by
  have h := recs_reached m K (c, rIx i)
  unfold kcell at h; dsimp only at h; rw [csem_r] at h; exact h
theorem reached_b (c : Dev nD) : recs m K ⊢ reached ER (barCell c) 0 := recs_reached m K (c, 0)

/-! ## An exchange's states -/

section States
variable (F)
variable (c : Dev nD) (i : Fin 20)

/-- Not yet sent: the tokens of the two duties the send pays, the positions at the device's own two cells, the credit
    with which it waits for its landing. -/
def xTodo : sProp 𝕄 := iprop(dutyTok ER (sCell i c) 0 false ∗ dutyTok ER (rCell i (peer i c)) 0 false
  ∗ atPos ER (sCell i c) 0 ∅ 0 ∗ atPos ER (rCell i c) 0 ∅ 0 ∗ cred (tallyAt (rCell i c) () (NN i)))
/-- Sent, not yet waited for. -/
def xAir : sProp 𝕄 := iprop(cred (tallyAt (sCell i c) () (NN i))
  ∗ atPos ER (sCell i c) 0 ∅ 0 ∗ atPos ER (rCell i c) 0 ∅ 0 ∗ cred (tallyAt (rCell i c) () (NN i)))
/-- Read out: the send cell is at zero again. -/
def xBack : sProp 𝕄 := iprop(semVal (sCell i c) 0 ∗ atPos ER (rCell i c) 0 ∅ 0 ∗ cred (tallyAt (rCell i c) () (NN i)))
/-- Landed here too: both cells at zero. -/
def xDone : sProp 𝕄 := iprop(semVal (sCell i c) 0 ∗ semVal (rCell i c) 0)
/-- The device owes the transfers from number `k` on. -/
def OW (k : ℕ) : sProp 𝕄 := iprop(∃ W : Waits sig Unit, owes (c : Thread nD τ) (owed c k) W)
end States

/-! ## The sends -/

section Send
variable (c : Dev nD) (i : Fin 20) {sp sp' : Space} {s : Shape} {e : EltTy}

theorem write_own (d : Dev nD) (dst : Memref sig .tc sp' s e) (fd : Buf (Elt F) (dst.view.loc (d : Thread nD τ))) (X : s.Idx → Elt F e) :
    (dst.view.loc (d : Thread nD τ) ↦[dst.view.set]{fullShare} dst.view.write (Elt F) fd X Finset.univ : sProp 𝕄) ⊢ own d dst fullShare X := by
  unfold own owns
  iintro H
  iexists _
  isplitr
  swap; · iexact H
  ipureintro; exact View.read_write_univ ..

/-- The send of transfer `i`, the source coming back at the wait for the read-out. -/
theorem send {n : Dev nD} (hn : n = peer i c) {src : Memref sig .tc sp s e} {dst : Memref sig .tc sp' s e} {x y : DmaSem sig}
    (hx : x = sS i) (hy : y = rS i) (hN : dst.view.dmaCredit = NN i) (q : PosShare TreeShare) (X : s.Idx → Elt F e) (R : sProp 𝕄)
    (h₁ : own c src q X ⊢ sendPay m (kind i) c) (h₂ : iprop(own (peer i c) dst fullShare X ∗ R) ⊢ recvPay m (kind i) (peer i c))
    {hsc : (dst : Memref sig (Dev.tc n : Thread nD τ).2.kind sp' s e).view.ref.isScScratch = false}
    {hsrc : src.view.WordExact} {hdst : dst.view.WordExact}
    {hsem : DmaTarget.Typed sp (.dma y) (.remote (Dev.tc n : Thread nD τ) dst (.dma x) hsc)}
    {α : Type} {Q : α → sProp 𝕄} {k : PUnit → Prog (TpuEff nD τ sig (Elt F) Λ₀ .tc) α} :
    iprop(recs m K ∗ xTodo F c i ∗ OW F c i.val ∗ own c src q X ∗ any (peer i c) dst fullShare ∗ R)
      ⊢ iprop(((xAir F c i ∗ OW F c (i.val + 1)) -∗ WP c (k ⟨⟩) Q)
          -∗ WP c (.op (.enqueueDma src (.remote (Dev.tc n : Thread nD τ) dst (.dma x) hsc) (.dma y) hsrc hdst hsem) k) Q) := by
  subst hn hx hy
  unfold xTodo xAir OW any own owns
  iintro ⟨#HR, ⟨Ht1, Ht2, Hp⟩, ⟨%W, HO⟩, ⟨%fs, %hfs, Hs⟩, ⟨%Y, %fd, %hfd, Hd⟩, HF⟩
  subst hfs
  iintro Hk
  iapply (Rounds.wp_send_pointsTo_with 𝒱₀ ER (Rd m) (c : Thread nD τ) none (κ₁ := K (c, sIx i)) (κ₂ := K (peer i c, rIx i))
    (r₁ := 0) (r₂ := 0) (d₁ := false) (d₂ := false) (fd := fd) (F := R)
    (by rw [duties_snd]; exact Finset.mem_singleton_self _) (by rw [duties_rcv]; exact Finset.mem_singleton_self _)
    () () (NN i) (show dst.view.amount (.dma (rS i)) = NN i from hN) (amount_snd m c i false) (amount_rcv m (peer i c) i false) (owed c (i.val + 1)) (owed_peel c i) (W := W)
    (by
      rw [payload_snd]; refine BIBase.Entails.trans ?_ h₁
      unfold own owns; iintro H; iexists fs; isplitr; · ipureintro; rfl
      iexact H)
    (by rw [payload_rcv]; exact (sep_mono_left (write_own (peer i c) dst fd _)).trans h₂)) $$ [Ht1 Ht2 HO Hs Hd HF]
  · isplitr; · iapply (inv_s m K i c); iexact HR
    isplitr; · iapply (inv_r m K i (peer i c)); iexact HR
    isplitl [Hs]; · iexact Hs
    isplitl [Hd HF]
    · isplitl [Hd] <;> iassumption
    isplitl [HO]; · iexact HO
    isplitl [Ht1]; · iexact Ht1
    isplitr; · iapply (reached_s m K i c); iexact HR
    isplitl [Ht2]; · iexact Ht2
    iapply (reached_r m K i (peer i c)); iexact HR
  iintro ⟨Hc, HO⟩
  iapply Hk
  isplitl [Hc Hp]
  · isplitl [Hc] <;> iassumption
  iexists W; iexact HO

/-- The send of transfer `i`, the source's share going to the receiver with the landing. -/
theorem send_lend {n : Dev nD} (hn : n = peer i c) {src : Memref sig .tc sp s e} {dst : Memref sig .tc sp' s e} {x y : DmaSem sig}
    (hx : x = sS i) (hy : y = rS i) (hN : dst.view.dmaCredit = NN i) (q : PosShare TreeShare) (X : s.Idx → Elt F e)
    (h₁ : (emp : sProp 𝕄) ⊢ sendPay m (kind i) c)
    (h₂ : iprop(own (peer i c) dst fullShare X ∗ any c src q) ⊢ recvPay m (kind i) (peer i c))
    {hsc : (dst : Memref sig (Dev.tc n : Thread nD τ).2.kind sp' s e).view.ref.isScScratch = false}
    {hsrc : src.view.WordExact} {hdst : dst.view.WordExact}
    {hsem : DmaTarget.Typed sp (.dma y) (.remote (Dev.tc n : Thread nD τ) dst (.dma x) hsc)}
    {α : Type} {Q : α → sProp 𝕄} {k : PUnit → Prog (TpuEff nD τ sig (Elt F) Λ₀ .tc) α} :
    iprop(recs m K ∗ xTodo F c i ∗ OW F c i.val ∗ own c src q X ∗ any (peer i c) dst fullShare)
      ⊢ iprop(((xAir F c i ∗ OW F c (i.val + 1)) -∗ WP c (k ⟨⟩) Q)
          -∗ WP c (.op (.enqueueDma src (.remote (Dev.tc n : Thread nD τ) dst (.dma x) hsc) (.dma y) hsrc hdst hsem) k) Q) := by
  subst hn hx hy
  unfold xTodo xAir OW
  iintro ⟨#HR, ⟨Ht1, Ht2, Hp⟩, ⟨%W, HO⟩, Hs, Hd⟩
  ihave Hs' := (Entails.of_eq (show own c src q X = iprop(∃ fs : Buf (Elt F) (src.view.loc (c : Thread nD τ)), ⌜src.view.read (Elt F) fs = X⌝
    ∗ (src.view.loc (c : Thread nD τ) ↦[src.view.set]{q} fs)) from rfl)) $$ Hs
  ihave Hd' := (Entails.of_eq (show (any (F := F) (peer i c) dst fullShare : sProp 𝕄) = iprop(∃ (Y : s.Idx → Elt F e)
    (fd : Buf (Elt F) (dst.view.loc (peer i c : Thread nD τ))), ⌜dst.view.read (Elt F) fd = Y⌝
    ∗ (dst.view.loc (peer i c : Thread nD τ) ↦[dst.view.set]{fullShare} fd)) from rfl)) $$ Hd
  icases Hs' with ⟨%fs, %hfs, Hs⟩
  icases Hd' with ⟨%Y, %fd, %hfd, Hd⟩
  subst hfs
  iintro Hk
  iapply (Rounds.wp_send_landing_pointsTo 𝒱₀ ER (Rd m) (c : Thread nD τ) none (κ₁ := K (c, sIx i)) (κ₂ := K (peer i c, rIx i))
    (r₁ := 0) (r₂ := 0) (d₁ := false) (d₂ := false) (fd := fd)
    (by rw [duties_snd]; exact Finset.mem_singleton_self _) (by rw [duties_rcv]; exact Finset.mem_singleton_self _)
    () () (NN i) (show dst.view.amount (.dma (rS i)) = NN i from hN) (amount_snd m c i false) (amount_rcv m (peer i c) i false) (owed c (i.val + 1)) (owed_peel c i) (W := W)
    (by rw [payload_snd]; exact h₁)
    (by
      rw [payload_rcv]; refine BIBase.Entails.trans ?_ h₂
      refine BI.sep_mono (write_own (peer i c) dst fd _)
        (BIBase.Entails.trans (Q := own c src q (src.view.read (Elt F) fs)) ?_ (own_any c src q _))
      unfold own owns; iintro H; iexists fs; isplitr; · ipureintro; rfl
      iexact H)) $$ [Ht1 Ht2 HO Hs Hd]
  · isplitr; · iapply (inv_s m K i c); iexact HR
    isplitr; · iapply (inv_r m K i (peer i c)); iexact HR
    isplitl [Hs]; · iexact Hs
    isplitl [Hd]; · iexact Hd
    isplitl [HO]; · iexact HO
    isplitl [Ht1]; · iexact Ht1
    isplitr; · iapply (reached_s m K i c); iexact HR
    isplitl [Ht2]; · iexact Ht2
    iapply (reached_r m K i (peer i c)); iexact HR
  iintro ⟨Hc, HO⟩
  iapply Hk
  isplitl [Hc Hp]
  · isplitl [Hc] <;> iassumption
  iexists W; iexact HO

end Send

/-! ## The waits -/

section Wait
variable (c : Dev nD) (i : Fin 20) (k' : ℕ) {sp sp' : Space} {s s' : Shape} {e e' : EltTy}

/-- The wait for transfer `i`'s read-out. -/
theorem wait_snd {x : DmaSem sig} (hx : x = sS i) {srcw : Memref sig .tc sp' s' e'} {dstw : Memref sig .tc sp s e}
    (hN : dstw.view.dmaCredit = NN i) (P : sProp 𝕄) (hP : sendPay m (kind i) c ⊢ P)
    {hsrc : srcw.view.WordExact} {hdst : dstw.view.WordExact}
    {α : Type} {Q : α → sProp 𝕄} {k : PUnit → Prog (TpuEff nD τ sig (Elt F) Λ₀ .tc) α} :
    iprop(recs m K ∗ xAir F c i ∗ OW F c k')
      ⊢ iprop(((xBack F c i ∗ OW F c k' ∗ P) -∗ WP c (k ⟨⟩) Q) -∗ WP c (.op (.waitDma2 x srcw dstw hsrc hdst) k) Q) := by
  subst hx
  unfold xAir xBack OW
  iintro ⟨#HR, ⟨Hc, Hs, Hr⟩, ⟨%W, HO⟩⟩ Hk
  iapply (Rounds.wp_wait_rest_token 𝒱₀ ER (Rd m) (c : Thread nD τ) none (κ := K (c, sIx i)) (k' := NN i)
      (fun Kk => (wpE_waitDma2_eq 𝒱₀ (c : Thread nD τ) none Set.univ Kk).trans (by rw [hN])) (Set.mem_univ _) () (O := owed c k') (W := W) (R := 0) (m := 0) (T := ∅)
      (by rw [Nat.zero_add, expect_snd])) $$ [Hc HO Hs]
  · isplitr; · iapply (inv_s m K i c); iexact HR
    isplitl [Hc]; · iexact Hc
    isplitl [HO]; · iexact HO
    isplitr; · iapply (mayWait_owed c (.dma (sS i)) k' 0 (le_of_eq (lv_snd i c)) (by omega)); iapply (recs_lev m K); iexact HR
    iexact Hs
  iintro ⟨HO, Hs, -, Hpay⟩
  ihave Hp := (Entails.of_eq (rest_snd m c i)) $$ Hpay
  imod (Rounds.cell_close ER (Rd m) (Set.mem_univ (K (c, sIx i))) (fun h => h) (R := 0 + 1) (duties_later m (sCell i c))) $$ [Hs] with Hz
  · isplitr; · iapply (inv_s m K i c); iexact HR
    iexact Hs
  iapply Hk
  isplitl [Hz Hr]
  · isplitl [Hz] <;> iassumption
  isplitl [HO]; · iexists _; iexact HO
  iapply hP; iexact Hp

/-- The wait for transfer `i`'s landing, when only later transfers are owed. -/
theorem wait_rcv {x : DmaSem sig} (hx : x = rS i) {srcw : Memref sig .tc sp' s' e'} {dstw : Memref sig .tc sp s e}
    (hN : dstw.view.dmaCredit = NN i) (hk : i.val < k') (P : sProp 𝕄) (hP : recvPay m (kind i) c ⊢ P)
    {hsrc : srcw.view.WordExact} {hdst : dstw.view.WordExact}
    {α : Type} {Q : α → sProp 𝕄} {k : PUnit → Prog (TpuEff nD τ sig (Elt F) Λ₀ .tc) α} :
    iprop(recs m K ∗ xBack F c i ∗ OW F c k')
      ⊢ iprop(((xDone F c i ∗ OW F c k' ∗ P) -∗ WP c (k ⟨⟩) Q) -∗ WP c (.op (.waitDma2 x srcw dstw hsrc hdst) k) Q) := by
  subst hx
  unfold xBack xDone OW
  iintro ⟨#HR, ⟨Hz, Hr, Hc⟩, ⟨%W, HO⟩⟩ Hk
  iapply (Rounds.wp_wait_rest_token 𝒱₀ ER (Rd m) (c : Thread nD τ) none (κ := K (c, rIx i)) (k' := NN i)
      (fun Kk => (wpE_waitDma2_eq 𝒱₀ (c : Thread nD τ) none Set.univ Kk).trans (by rw [hN])) (Set.mem_univ _) () (O := owed c k') (W := W) (R := 0) (m := 0) (T := ∅)
      (by rw [Nat.zero_add, expect_rcv])) $$ [Hc HO Hr]
  · isplitr; · iapply (inv_r m K i c); iexact HR
    isplitl [Hc]; · iexact Hc
    isplitl [HO]; · iexact HO
    isplitr; · iapply (mayWait_owed c (.dma (rS i)) k' (2 + i.val) (le_of_eq (lv_rcv i c)) (by omega)); iapply (recs_lev m K); iexact HR
    iexact Hr
  iintro ⟨HO, Hr, -, Hpay⟩
  ihave Hp := (Entails.of_eq (rest_rcv m c i)) $$ Hpay
  imod (Rounds.cell_close ER (Rd m) (Set.mem_univ (K (c, rIx i))) (fun h => h) (R := 0 + 1) (duties_later m (rCell i c))) $$ [Hr] with Hy
  · isplitr; · iapply (inv_r m K i c); iexact HR
    iexact Hr
  iapply Hk
  isplitl [Hz Hy]
  · isplitl [Hz] <;> iassumption
  isplitl [HO]; · iexists _; iexact HO
  iapply hP; iexact Hp

end Wait

/-! ## The copies from the device's own memory -/

section Copy
variable (c : Dev nD) {sp sp' : Space} {s : Shape} {e : EltTy}

/-- A copy under way on one of the device's own semaphores: the source's contents and both buffers, to come back. -/
def fly (x : DmaSem sig) (src : Memref sig .tc sp s e) (dst : Memref sig .tc sp' s e) (X : s.Idx → Elt F e) : sProp 𝕄 :=
  iprop(∃ (fs : Buf (Elt F) (src.view.loc (c : Thread nD τ))) (fd : Buf (Elt F) (dst.view.loc (c : Thread nD τ))), ⌜src.view.read (Elt F) fs = X⌝
    ∗ Transfers.Flight EC (c : Thread nD τ) (.dma x) () dst.view.dmaCredit
        iprop((dst.view.loc (c : Thread nD τ) ↦[dst.view.set]{fullShare} dst.view.write (Elt F) fd (src.view.read (Elt F) fs) Finset.univ)
          ∗ (src.view.loc (c : Thread nD τ) ↦[src.view.set]{fullShare} fs)))

theorem copy_in {x y : DmaSem sig} (hy : y = x) (hpos : 0 < s.numel) (src : Memref sig .tc sp s e) (dst : Memref sig .tc sp' s e) (X : s.Idx → Elt F e)
    {hsrc : src.view.WordExact} {hdst : dst.view.WordExact} {hsem : DmaTarget.Typed (nD := nD) sp (.dma y) (.here (p := (c : Thread nD τ).2) dst)}
    {α : Type} {Q : α → sProp 𝕄} {k : PUnit → Prog (TpuEff nD τ sig (Elt F) Λ₀ .tc) α} :
    iprop(own c src fullShare X ∗ any c dst fullShare ∗ semVal ((c : Thread nD τ), .dma x) 0)
      ⊢ iprop((fly c x src dst X -∗ WP c (k ⟨⟩) Q) -∗ WP c (.op (.enqueueDma src (.here (p := (c : Thread nD τ).2) dst) (.dma y) hsrc hdst hsem) k) Q) := by
  subst hy
  unfold any own owns
  iintro ⟨⟨%fs, %hfs, Hs⟩, ⟨%Y, %fd, %hfd, Hd⟩, Hv⟩ Hk
  iapply (Transfers.wp_dmaLocal EC 𝒱₀ (c : Thread nD τ) none () dst.view.dmaCredit rfl (View.dmaCredit_pos _ hpos) (le_refl dst.view.set) (fs := fs) (fd := fd)) $$ [Hs Hd Hv]
  · isplitl [Hs]; · iexact Hs
    isplitl [Hd] <;> iassumption
  iintro HF
  iapply Hk
  unfold fly
  iexists fs; iexists fd
  isplitr; · ipureintro; exact hfs
  iexact HF

theorem copy_wait {x y : DmaSem sig} (hy : y = x) (hx : lv ((c : Thread nD τ), .dma x) () = 0) {src : Memref sig .tc sp s e} {dst : Memref sig .tc sp' s e} (X : s.Idx → Elt F e)
    (k' : ℕ) {srcw : Memref sig .tc sp s e} {hsrc : srcw.view.WordExact} {hdst : dst.view.WordExact}
    {α : Type} {Q : α → sProp 𝕄} {k : PUnit → Prog (TpuEff nD τ sig (Elt F) Λ₀ .tc) α} :
    iprop(recs m K ∗ fly c x src dst X ∗ OW F c k')
      ⊢ iprop(((own c src fullShare X ∗ own c dst fullShare X ∗ semVal ((c : Thread nD τ), .dma x) 0 ∗ OW F c k') -∗ WP c (k ⟨⟩) Q)
        -∗ WP c (.op (.waitDma2 y srcw dst hsrc hdst) k) Q) := by
  subst hy
  unfold fly OW
  iintro ⟨#HR, ⟨%fs, %fd, %hfs, HF⟩, ⟨%W, HO⟩⟩ Hk
  subst hfs
  iapply (Transfers.wp_waitLocalO EC 𝒱₀ (c : Thread nD τ) none () rfl (O := owed c k') (W := W)) $$ [HF HO]
  · isplitl [HF]; · iexact HF
    isplitl [HO]; · iexact HO
    iapply (mayWait_owed c (.dma y) k' 0 (le_of_eq hx) (by omega)); iapply (recs_lev m K); iexact HR
  iintro ⟨⟨Hd, Hs⟩, Hv, HO⟩
  iapply Hk
  isplitl [Hs]
  · unfold own owns; iexists fs; isplitr; · ipureintro; rfl
    iexact Hs
  isplitl [Hd]; · iapply (write_own c dst fd _); iexact Hd
  isplitl [Hv]; · iexact Hv
  iexists _; iexact HO

end Copy

end Cert.KernelIdeal.Pf
-- ==== Proof.Moves.lean ====
/-
The kernel's steps as its program spells them: overwriting a block of rows, each kind of send at its offsets and
semaphores, and each kind of wait with what it brings.
-/
module

public import proofs.«01_k».proof.Proof.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ) (c : Dev nD)

/-! ## Overwriting -/

section Upd
variable {cs : CoreSpace} {e : EltTy}

/-- A load of a quarter, whatever it holds. -/
theorem load_q_any {α : Type} {Q : α → sProp 𝕄} (M : Memref sig .tc cs S256x1024 e) (n : Fin 4) {off : Fin 2 → Nat} (hoff : off = ![64 * n.val, 0])
    (q : PosShare TreeShare) {inb : ∀ a, off a + S64x1024.size a ≤ S256x1024.size a}
    {hl : M.view.LoadsAt (Rect.unit (s := S256x1024) off S64x1024.size inb).toLoadRect}
    {k : (S64x1024.Idx → Elt F e) → Prog (TpuEff nD τ sig (Elt F) Λ₀ .tc) α} :
    (any c (quar M n) q : sProp 𝕄)
      ⊢ iprop((∀ X, any c (quar M n) q -∗ WP c (k X) Q) -∗ WP c (.op (.load M (Rect.unit (s := S256x1024) off S64x1024.size inb).toLoadRect hl) k) Q) := by
  unfold any
  iintro ⟨%X, H⟩ Hk
  iapply (load_q c M n hoff q X) $$ [$H]; iintro H
  iapply Hk; iexists X; iexact H

/-- A load of a half, whatever it holds. -/
theorem load_h_any {α : Type} {Q : α → sProp 𝕄} (M : Memref sig .tc cs S256x1024 e) (n : Fin 2) {off : Fin 2 → Nat} (hoff : off = ![128 * n.val, 0])
    (q : PosShare TreeShare) {inb : ∀ a, off a + S128x1024.size a ≤ S256x1024.size a}
    {hl : M.view.LoadsAt (Rect.unit (s := S256x1024) off S128x1024.size inb).toLoadRect}
    {k : (S128x1024.Idx → Elt F e) → Prog (TpuEff nD τ sig (Elt F) Λ₀ .tc) α} :
    (any c (half M n) q : sProp 𝕄)
      ⊢ iprop((∀ X, any c (half M n) q -∗ WP c (k X) Q) -∗ WP c (.op (.load M (Rect.unit (s := S256x1024) off S128x1024.size inb).toLoadRect hl) k) Q) := by
  unfold any
  iintro ⟨%X, H⟩ Hk
  iapply (load_h c M n hoff q X) $$ [$H]; iintro H
  iapply Hk; iexists X; iexact H

/-- A load of a block, whatever it holds. -/
theorem load_b_any {α : Type} {Q : α → sProp 𝕄} (M : Memref sig .tc cs S3x2x64x1024 e) (l : Fin 3) (n : Fin 2) {off : Fin 4 → Nat} (hoff : off = ![l.val, n.val, 0, 0])
    (q : PosShare TreeShare) {inb : ∀ a, off a + S1x1x64x1024.size a ≤ S3x2x64x1024.size a}
    {hl : M.view.LoadsAt (Rect.unit (s := S3x2x64x1024) off S1x1x64x1024.size inb).toLoadRect}
    {k : (S1x1x64x1024.Idx → Elt F e) → Prog (TpuEff nD τ sig (Elt F) Λ₀ .tc) α} :
    (any c (blk M l n) q : sProp 𝕄)
      ⊢ iprop((∀ X, any c (blk M l n) q -∗ WP c (k X) Q)
        -∗ WP c (.op (.load M (Rect.unit (s := S3x2x64x1024) off S1x1x64x1024.size inb).toLoadRect hl) k) Q) := by
  unfold any
  iintro ⟨%X, H⟩ Hk
  iapply (load_b c M l n hoff q X) $$ [$H]; iintro H
  iapply Hk; iexists X; iexact H

/-- A load of a whole buffer, whatever it holds. -/
theorem load_w_any {α : Type} {Q : α → sProp 𝕄} {s : Shape} (M : Memref sig .tc cs s e) {off : Fin s.rank → Nat} (hoff : off = fun _ => 0)
    (q : PosShare TreeShare) {inb : ∀ a, off a + s.size a ≤ s.size a}
    {hl : M.view.LoadsAt (Rect.unit (s := s) off s.size inb).toLoadRect}
    {k : (s.Idx → Elt F e) → Prog (TpuEff nD τ sig (Elt F) Λ₀ .tc) α} :
    (any c M q : sProp 𝕄)
      ⊢ iprop((∀ X, any c M q -∗ WP c (k X) Q) -∗ WP c (.op (.load M (Rect.unit (s := s) off s.size inb).toLoadRect hl) k) Q) := by
  unfold any
  iintro ⟨%X, H⟩ Hk
  iapply (load_w c M hoff q X) $$ [$H]; iintro H
  iapply Hk; iexists X; iexact H

/-- A store to a quarter, of what is known to be `w'`. -/
theorem put_q {α : Type} {Q : α → sProp 𝕄} (M : Memref sig .tc cs S256x1024 e) (n : Fin 4) {off : Fin 2 → Nat} (hoff : off = ![64 * n.val, 0])
    {w w' : S64x1024.Idx → Elt F e} (hw : w = w') {inb : ∀ a, off a + S64x1024.size a ≤ S256x1024.size a}
    {hx : (M.access (Rect.unit (s := S256x1024) off S64x1024.size inb)).Stores Finset.univ} {hm}
    {k : PUnit → Prog (TpuEff nD τ sig (Elt F) Λ₀ .tc) α} :
    (any c (quar M n) fullShare : sProp 𝕄)
      ⊢ iprop((own c (quar M n) fullShare w' -∗ WP c (k ⟨⟩) Q)
        -∗ WP c (.op (.store M (Rect.unit (s := S256x1024) off S64x1024.size inb) w Finset.univ hx hm) k) Q) := by
  subst hw; exact store_q c M n hoff w

/-- A store to a block, of what is known to be `w'`. -/
theorem put_b {α : Type} {Q : α → sProp 𝕄} (M : Memref sig .tc cs S3x2x64x1024 e) (l : Fin 3) (n : Fin 2) {off : Fin 4 → Nat} (hoff : off = ![l.val, n.val, 0, 0])
    {w : S1x1x64x1024.Idx → Elt F e} {w' : S64x1024.Idx → Elt F e} (hw : sq (β := Elt F) w = w') {inb : ∀ a, off a + S1x1x64x1024.size a ≤ S3x2x64x1024.size a}
    {hx : (M.access (Rect.unit (s := S3x2x64x1024) off S1x1x64x1024.size inb)).Stores Finset.univ} {hm}
    {k : PUnit → Prog (TpuEff nD τ sig (Elt F) Λ₀ .tc) α} :
    (any c (blk M l n) fullShare : sProp 𝕄)
      ⊢ iprop((own c (blk M l n) fullShare w' -∗ WP c (k ⟨⟩) Q)
        -∗ WP c (.op (.store M (Rect.unit (s := S3x2x64x1024) off S1x1x64x1024.size inb) w Finset.univ hx hm) k) Q) := by
  subst hw; exact store_b c M l n hoff w

/-- A store to a whole buffer, of what is known to be `w'`. -/
theorem put_w {α : Type} {Q : α → sProp 𝕄} {s : Shape} (M : Memref sig .tc cs s e) {off : Fin s.rank → Nat} (hoff : off = fun _ => 0)
    {w w' : s.Idx → Elt F e} (hw : w = w') {inb : ∀ a, off a + s.size a ≤ s.size a}
    {hx : (M.access (Rect.unit (s := s) off s.size inb)).Stores Finset.univ} {hm}
    {k : PUnit → Prog (TpuEff nD τ sig (Elt F) Λ₀ .tc) α} :
    (any c M fullShare : sProp 𝕄)
      ⊢ iprop((own c M fullShare w' -∗ WP c (k ⟨⟩) Q)
        -∗ WP c (.op (.store M (Rect.unit (s := s) off s.size inb) w Finset.univ hx hm) k) Q) := by
  subst hw; exact store_w c M hoff w

/-- A quarter read and overwritten, the reading not used. -/
theorem upd_q {α : Type} {Q : α → sProp 𝕄} (M : Memref sig .tc cs S256x1024 e) (n : Fin 4) {off off' : Fin 2 → Nat} (hoff : off = ![64 * n.val, 0]) (hoff' : off' = ![64 * n.val, 0])
    {w w' : S64x1024.Idx → Elt F e} (hw : w = w') {inb : ∀ a, off a + S64x1024.size a ≤ S256x1024.size a}
    {inb' : ∀ a, off' a + S64x1024.size a ≤ S256x1024.size a}
    {hl : M.view.LoadsAt (Rect.unit (s := S256x1024) off S64x1024.size inb).toLoadRect}
    {hx : (M.access (Rect.unit (s := S256x1024) off' S64x1024.size inb')).Stores Finset.univ} {hm}
    {k : PUnit → Prog (TpuEff nD τ sig (Elt F) Λ₀ .tc) α} :
    (any c (quar M n) fullShare : sProp 𝕄)
      ⊢ iprop((own c (quar M n) fullShare w' -∗ WP c (k ⟨⟩) Q)
        -∗ WP c (.op (.load M (Rect.unit (s := S256x1024) off S64x1024.size inb).toLoadRect hl)
            fun _ => .op (.store M (Rect.unit (s := S256x1024) off' S64x1024.size inb') w Finset.univ hx hm) k) Q) := by
  iintro H Hk
  iapply (load_q_any c M n hoff fullShare) $$ [$H]; iintro %X H
  iapply (put_q c M n hoff' hw) $$ [$H]; iexact Hk

/-- A block read and overwritten, the reading not used. -/
theorem upd_b {α : Type} {Q : α → sProp 𝕄} (M : Memref sig .tc cs S3x2x64x1024 e) (l : Fin 3) (n : Fin 2) {off : Fin 4 → Nat} (hoff : off = ![l.val, n.val, 0, 0])
    {w : S1x1x64x1024.Idx → Elt F e} {w' : S64x1024.Idx → Elt F e} (hw : sq (β := Elt F) w = w') {inb : ∀ a, off a + S1x1x64x1024.size a ≤ S3x2x64x1024.size a}
    {hl : M.view.LoadsAt (Rect.unit (s := S3x2x64x1024) off S1x1x64x1024.size inb).toLoadRect}
    {hx : (M.access (Rect.unit (s := S3x2x64x1024) off S1x1x64x1024.size inb)).Stores Finset.univ} {hm}
    {k : PUnit → Prog (TpuEff nD τ sig (Elt F) Λ₀ .tc) α} :
    (any c (blk M l n) fullShare : sProp 𝕄)
      ⊢ iprop((own c (blk M l n) fullShare w' -∗ WP c (k ⟨⟩) Q)
        -∗ WP c (.op (.load M (Rect.unit (s := S3x2x64x1024) off S1x1x64x1024.size inb).toLoadRect hl)
            fun _ => .op (.store M (Rect.unit (s := S3x2x64x1024) off S1x1x64x1024.size inb) w Finset.univ hx hm) k) Q) := by
  iintro H Hk
  iapply (load_b_any c M l n hoff fullShare) $$ [$H]; iintro %X H
  iapply (put_b c M l n hoff hw) $$ [$H]; iexact Hk

/-- A whole buffer read and overwritten, the reading not used. -/
theorem upd_w {α : Type} {Q : α → sProp 𝕄} {s : Shape} (M : Memref sig .tc cs s e) {off : Fin s.rank → Nat} (hoff : off = fun _ => 0)
    {w w' : s.Idx → Elt F e} (hw : w = w') {inb : ∀ a, off a + s.size a ≤ s.size a}
    {hl : M.view.LoadsAt (Rect.unit (s := s) off s.size inb).toLoadRect}
    {hx : (M.access (Rect.unit (s := s) off s.size inb)).Stores Finset.univ} {hm}
    {k : PUnit → Prog (TpuEff nD τ sig (Elt F) Λ₀ .tc) α} :
    (any c M fullShare : sProp 𝕄)
      ⊢ iprop((own c M fullShare w' -∗ WP c (k ⟨⟩) Q)
        -∗ WP c (.op (.load M (Rect.unit (s := s) off s.size inb).toLoadRect hl)
            fun _ => .op (.store M (Rect.unit (s := s) off s.size inb) w Finset.univ hx hm) k) Q) := by
  iintro H Hk
  iapply (load_w_any c M hoff fullShare) $$ [$H]; iintro %X H
  iapply (put_w c M hoff hw) $$ [$H]; iexact Hk

/-- A quarter overwritten, what it held known. -/
theorem upd_q' {α : Type} {Q : α → sProp 𝕄} (M : Memref sig .tc cs S256x1024 e) (n : Fin 4) {off off' : Fin 2 → Nat} (hoff : off = ![64 * n.val, 0]) (hoff' : off' = ![64 * n.val, 0])
    {w w' : S64x1024.Idx → Elt F e} (hw : w = w') {Y : S64x1024.Idx → Elt F e} {inb : ∀ a, off a + S64x1024.size a ≤ S256x1024.size a}
    {inb' : ∀ a, off' a + S64x1024.size a ≤ S256x1024.size a}
    {hl : M.view.LoadsAt (Rect.unit (s := S256x1024) off S64x1024.size inb).toLoadRect}
    {hx : (M.access (Rect.unit (s := S256x1024) off' S64x1024.size inb')).Stores Finset.univ} {hm}
    {k : PUnit → Prog (TpuEff nD τ sig (Elt F) Λ₀ .tc) α} :
    (own c (quar M n) fullShare Y : sProp 𝕄)
      ⊢ iprop((own c (quar M n) fullShare w' -∗ WP c (k ⟨⟩) Q)
        -∗ WP c (.op (.load M (Rect.unit (s := S256x1024) off S64x1024.size inb).toLoadRect hl)
            fun _ => .op (.store M (Rect.unit (s := S256x1024) off' S64x1024.size inb') w Finset.univ hx hm) k) Q) :=
  (own_any c _ _ _).trans (upd_q c M n hoff hoff' hw)

/-- A whole buffer overwritten, what it held known. -/
theorem upd_w' {α : Type} {Q : α → sProp 𝕄} {s : Shape} (M : Memref sig .tc cs s e) {off : Fin s.rank → Nat} (hoff : off = fun _ => 0)
    {w w' : s.Idx → Elt F e} (hw : w = w') {Y : s.Idx → Elt F e} {inb : ∀ a, off a + s.size a ≤ s.size a}
    {hl : M.view.LoadsAt (Rect.unit (s := s) off s.size inb).toLoadRect}
    {hx : (M.access (Rect.unit (s := s) off s.size inb)).Stores Finset.univ} {hm}
    {k : PUnit → Prog (TpuEff nD τ sig (Elt F) Λ₀ .tc) α} :
    (own c M fullShare Y : sProp 𝕄)
      ⊢ iprop((own c M fullShare w' -∗ WP c (k ⟨⟩) Q)
        -∗ WP c (.op (.load M (Rect.unit (s := s) off s.size inb).toLoadRect hl)
            fun _ => .op (.store M (Rect.unit (s := s) off s.size inb) w Finset.univ hx hm) k) Q) :=
  (own_any c _ _ _).trans (upd_w c M hoff hw)

end Upd

/-! ## Which transfer, which layer -/

/-- Transfer `i` is of kind `kd`, and its number is `k`. -/
structure Is (i : Fin 20) (k k' : ℕ) (kd : Xk) : Prop where
  kd : kind i = kd
  num : i.val = k
  next : k + 1 = k'

/-- Layer `l`, number `n`: a device keeps the half of parity `p`, and not that of `p'`. -/
structure Ly (l : Fin 3) (n n' : ℕ) (p p' : Fin 2) : Prop where
  num : l.val = n
  next : n + 1 = n'
  par : parF l = p
  par' : 1 - p = p'

theorem ly0 : Ly 0 0 1 0 1 := ⟨rfl, rfl, rfl, rfl⟩
theorem ly1 : Ly 1 1 2 1 0 := ⟨rfl, rfl, rfl, rfl⟩
theorem ly2 : Ly 2 2 3 0 1 := ⟨rfl, rfl, rfl, rfl⟩

theorem is0 : Is 0 0 1 (.g1) := ⟨rfl, rfl, rfl⟩
theorem is1 : Is 1 1 2 (.g2) := ⟨rfl, rfl, rfl⟩
theorem is2 : Is 2 2 3 (.a1 0 0) := ⟨rfl, rfl, rfl⟩
theorem is3 : Is 3 3 4 (.a1 0 1) := ⟨rfl, rfl, rfl⟩
theorem is4 : Is 4 4 5 (.a2 0 0) := ⟨rfl, rfl, rfl⟩
theorem is5 : Is 5 5 6 (.a2 0 1) := ⟨rfl, rfl, rfl⟩
theorem is6 : Is 6 6 7 (.a3 0 0) := ⟨rfl, rfl, rfl⟩
theorem is7 : Is 7 7 8 (.a3 0 1) := ⟨rfl, rfl, rfl⟩
theorem is8 : Is 8 8 9 (.a1 1 0) := ⟨rfl, rfl, rfl⟩
theorem is9 : Is 9 9 10 (.a1 1 1) := ⟨rfl, rfl, rfl⟩
theorem is10 : Is 10 10 11 (.a2 1 0) := ⟨rfl, rfl, rfl⟩
theorem is11 : Is 11 11 12 (.a2 1 1) := ⟨rfl, rfl, rfl⟩
theorem is12 : Is 12 12 13 (.a3 1 0) := ⟨rfl, rfl, rfl⟩
theorem is13 : Is 13 13 14 (.a3 1 1) := ⟨rfl, rfl, rfl⟩
theorem is14 : Is 14 14 15 (.a1 2 0) := ⟨rfl, rfl, rfl⟩
theorem is15 : Is 15 15 16 (.a1 2 1) := ⟨rfl, rfl, rfl⟩
theorem is16 : Is 16 16 17 (.a2 2 0) := ⟨rfl, rfl, rfl⟩
theorem is17 : Is 17 17 18 (.a2 2 1) := ⟨rfl, rfl, rfl⟩
theorem is18 : Is 18 18 19 (.a3 2 0) := ⟨rfl, rfl, rfl⟩
theorem is19 : Is 19 19 20 (.a3 2 1) := ⟨rfl, rfl, rfl⟩

/-- The semaphore a transfer's read-out is told by, and the one its landing is. -/
theorem sS_eq (i : Fin 20) {k : ℕ} (h : i.val = k) {inb} :
    ((cc0_scratch10.slice (Rect.unit (s := S20) ![k] S1.size inb)).squeeze S_ squeezes_S1_S_).sem = sS i := by
  subst h; revert inb; revert i; decide
theorem rS_eq (i : Fin 20) {k : ℕ} (h : i.val = k) {inb} :
    ((cc0_scratch11.slice (Rect.unit (s := S20) ![k] S1.size inb)).squeeze S_ squeezes_S1_S_).sem = rS i := by
  subst h; revert inb; revert i; decide

set_option backward.proofsInPublic true in
/-- The two semaphores of the copies of the weights. -/
def dS (j : Fin 2) : DmaSem sig := ⟨2 + j.val, by have := j.isLt; show 2 + j.val < 44; omega⟩
theorem dS_eq (j : Fin 2) {k : ℕ} (h : j.val = k) {inb} :
    ((cc0_scratch9.slice (Rect.unit (s := S2) ![k] S1.size inb)).squeeze S_ squeezes_S1_S_).sem = dS j := by
  subst h; revert inb; revert j; decide
theorem lv_dS (j : Fin 2) (d : Dev nD) : lv ((d : Thread nD τ), .dma (dS j)) () = 0 := by
  unfold lv; rw [show role (.dma (dS j)) = .loc from by fin_cases j <;> rfl]

abbrev sRef (k : ℕ) (inb : ∀ a, (![k] : Fin 1 → ℕ) a + S1.size a ≤ S20.size a) : DmaSem sig :=
  ((cc0_scratch10.slice (Rect.unit (s := S20) ![k] S1.size inb)).squeeze S_ squeezes_S1_S_).sem
abbrev rRef (k : ℕ) (inb : ∀ a, (![k] : Fin 1 → ℕ) a + S1.size a ≤ S20.size a) : DmaSem sig :=
  ((cc0_scratch11.slice (Rect.unit (s := S20) ![k] S1.size inb)).squeeze S_ squeezes_S1_S_).sem

theorem NN_of {i : Fin 20} {kd : Xk} (h : kind i = kd) (hg : kd ≠ .g2) : NN i = N64 := by
  unfold NN; refine if_neg ?_; rintro rfl; exact hg h.symm
theorem peer_of {i : Fin 20} {kd : Xk} (h : kind i = kd) : peer i c = peerK kd c := by unfold peer; rw [h]

theorem drop_emp (P : sProp 𝕄) : iprop(P ∗ emp) ⊢ P := by iintro ⟨H, -⟩; iexact H

section Sends
variable {i : Fin 20} {k k' : ℕ} {l : Fin 3} {ln ln' : ℕ} {p p' q : Fin 2} {n : Dev nD}
  {sin : ∀ a, (![k] : Fin 1 → ℕ) a + S1.size a ≤ S20.size a} {rin : ∀ a, (![k] : Fin 1 → ℕ) a + S1.size a ≤ S20.size a}

/-- The device's own rows to its first partner. -/
theorem send_g1 (hi : Is i k k' .g1) (hn : n = p1 c) {off : Fin 2 → ℕ} (hoff : off = ![64 * (xq c).val, 0])
    {inb : ∀ a, off a + S64x1024.size a ≤ S256x1024.size a} {hsc hsrc hdst hsem}
    {α : Type} {Q : α → sProp 𝕄} {kk : PUnit → Prog (TpuEff nD τ sig (Elt F) Λ₀ .tc) α} :
    iprop(recs m K ∗ xTodo F c i ∗ OW F c k ∗ own c (quar Xm (xq c)) fullShare (xv m 0 c (xq c)) ∗ any (p1 c) (quar Xm (xq c)) fullShare)
      ⊢ iprop(((xAir F c i ∗ OW F c k') -∗ WP c (kk ⟨⟩) Q)
          -∗ WP c (.op (.enqueueDma (Xm.slice (Rect.unit (s := S256x1024) off S64x1024.size inb) (fun _ => rfl))
            (.remote (Dev.tc n : Thread nD τ) (Xm.slice (Rect.unit (s := S256x1024) off S64x1024.size inb) (fun _ => rfl)) (.dma (sRef k sin)) hsc)
            (.dma (rRef k rin)) hsrc hdst hsem) kk) Q) := by
  obtain ⟨hk, rfl, rfl⟩ := hi
  subst hoff hn
  have hp := peer_of c hk
  iintro ⟨#HR, Hx, HO, Hs, Hd⟩
  iapply (send m K c i (src := quar Xm (xq c)) (dst := quar Xm (xq c)) hp.symm (sS_eq i rfl) (rS_eq i rfl) ((rfl : _ = N64).trans (NN_of hk nofun).symm) fullShare (xv m 0 c (xq c)) iprop(emp)
    (by rw [hk]; exact .rfl)
    (by
      rw [hp, hk]; refine (drop_emp _).trans ?_
      show _ ⊢ own (p1 c) (quar Xm (xq (p1 (p1 c)))) fullShare (xv m 0 (p1 c) (xq (p1 (p1 c))))
      rw [p1_p1]; exact .rfl)) $$ [Hx HO Hs Hd]
  rw [hp]
  iframe HR Hx HO Hs Hd

/-- The pair's rows to the second partner. -/
theorem send_g2 (hi : Is i k k' .g2) (hn : n = p2 c) {off : Fin 2 → ℕ} (hoff : off = ![128 * (gh c).val, 0])
    {inb : ∀ a, off a + S128x1024.size a ≤ S256x1024.size a} {hsc hsrc hdst hsem}
    {α : Type} {Q : α → sProp 𝕄} {kk : PUnit → Prog (TpuEff nD τ sig (Elt F) Λ₀ .tc) α} :
    iprop(recs m K ∗ xTodo F c i ∗ OW F c k ∗ own c (half Xm (gh c)) fullShare (half0 m c (gh c)) ∗ any (p2 c) (half Xm (gh c)) fullShare)
      ⊢ iprop(((xAir F c i ∗ OW F c k') -∗ WP c (kk ⟨⟩) Q)
          -∗ WP c (.op (.enqueueDma (Xm.slice (Rect.unit (s := S256x1024) off S128x1024.size inb) (fun _ => rfl))
            (.remote (Dev.tc n : Thread nD τ) (Xm.slice (Rect.unit (s := S256x1024) off S128x1024.size inb) (fun _ => rfl)) (.dma (sRef k sin)) hsc)
            (.dma (rRef k rin)) hsrc hdst hsem) kk) Q) := by
  obtain ⟨hk, rfl, rfl⟩ := hi
  subst hoff hn
  have hp := peer_of c hk
  have h1 : i = 1 := by revert hk; clear * -; revert i; intro i h; fin_cases i <;> first | rfl | cases h
  iintro ⟨#HR, Hx, HO, Hs, Hd⟩
  iapply (send m K c i (src := half Xm (gh c)) (dst := half Xm (gh c)) hp.symm (sS_eq i rfl) (rS_eq i rfl) (by rw [h1]; rfl) fullShare (half0 m c (gh c)) iprop(emp)
    (by rw [hk]; exact .rfl)
    (by
      rw [hp, hk]; refine (drop_emp _).trans ?_
      show _ ⊢ own (p2 c) (half Xm (gh (p2 (p2 c)))) fullShare (half0 m (p2 c) (gh (p2 (p2 c))))
      rw [p2_p2]; exact .rfl)) $$ [Hx HO Hs Hd]
  rw [hp]
  iframe HR Hx HO Hs Hd

/-- A partial product to the first partner, with the right to overwrite the rows it is made of. -/
theorem send_a1 (hl : Ly l ln ln' p p') (hi : Is i k k' (.a1 l q)) (hn : n = p1 c)
    {inb inb' : ∀ a, (![l.val, q.val, 0, 0] : Fin 4 → ℕ) a + S1x1x64x1024.size a ≤ S3x2x64x1024.size a} {hsc hsrc hdst hsem}
    {α : Type} {Q : α → sProp 𝕄} {kk : PUnit → Prog (TpuEff nD τ sig (Elt F) Λ₀ .tc) α} :
    iprop(recs m K ∗ xTodo F c i ∗ OW F c k ∗ own c (blk S1m l q) fullShare (tr (hid m ln c (kq p' q c))) ∗ any (p1 c) (blk R1m l q) fullShare
        ∗ any c (quar Xm (kq p' q c)) (shr l))
      ⊢ iprop(((xAir F c i ∗ OW F c k') -∗ WP c (kk ⟨⟩) Q)
          -∗ WP c (.op (.enqueueDma ((S1m.slice (Rect.unit (s := S3x2x64x1024) ![l.val, q.val, 0, 0] S1x1x64x1024.size inb) (fun _ => rfl)).squeeze S64x1024 squeezes_S1x1x64x1024_S64x1024)
            (.remote (Dev.tc n : Thread nD τ)
              ((R1m.slice (Rect.unit (s := S3x2x64x1024) ![l.val, q.val, 0, 0] S1x1x64x1024.size inb') (fun _ => rfl)).squeeze S64x1024 squeezes_S1x1x64x1024_S64x1024) (.dma (sRef k sin)) hsc)
            (.dma (rRef k rin)) hsrc hdst hsem) kk) Q) := by
  obtain ⟨hk, rfl, rfl⟩ := hi
  obtain ⟨rfl, rfl, rfl, rfl⟩ := hl
  subst hn
  have hp := peer_of c hk
  iintro ⟨#HR, Hx, HO, Hs, Hd, HF⟩
  iapply (send m K c i (src := blk S1m l q) (dst := blk R1m l q) hp.symm (sS_eq i rfl) (rS_eq i rfl) ((rfl : _ = N64).trans (NN_of hk nofun).symm) fullShare
    (tr (hid m l.val c (kq (1 - parF l) q c))) (any c (quar Xm (kq (1 - parF l) q c)) (shr l))
    (by rw [hk]; exact own_any c _ _ _)
    (by
      rw [hp, hk]
      show _ ⊢ iprop(own (p1 c) (blk R1m l q) fullShare (tr (hid m l.val (p1 (p1 c)) (kq (parF l) q (p1 c))))
        ∗ any (p1 (p1 c)) (quar Xm (kq (parF l) q (p1 c))) (shr l))
      rw [p1_p1, kq_p1]; exact .rfl)) $$ [Hx HO Hs Hd HF]
  rw [hp]
  iframe HR Hx HO Hs Hd HF

/-- A pair's sum to the second partner. -/
theorem send_a2 (hl : Ly l ln ln' p p') (hi : Is i k k' (.a2 l q)) (hn : n = p2 c) {off : Fin 2 → ℕ} (hoff : off = ![64 * (kq p q c).val, 0])
    {inb : ∀ a, off a + S64x1024.size a ≤ S256x1024.size a}
    {inb' : ∀ a, (![l.val, q.val, 0, 0] : Fin 4 → ℕ) a + S1x1x64x1024.size a ≤ S3x2x64x1024.size a} {hsc hsrc hdst hsem}
    {α : Type} {Q : α → sProp 𝕄} {kk : PUnit → Prog (TpuEff nD τ sig (Elt F) Λ₀ .tc) α} :
    iprop(recs m K ∗ xTodo F c i ∗ OW F c k ∗ own c (quar Xm (kq p q c)) fullShare (tr (acc m ln c (kq p q c))) ∗ any (p2 c) (blk R2m l q) fullShare)
      ⊢ iprop(((xAir F c i ∗ OW F c k') -∗ WP c (kk ⟨⟩) Q)
          -∗ WP c (.op (.enqueueDma (Xm.slice (Rect.unit (s := S256x1024) off S64x1024.size inb) (fun _ => rfl))
            (.remote (Dev.tc n : Thread nD τ)
              ((R2m.slice (Rect.unit (s := S3x2x64x1024) ![l.val, q.val, 0, 0] S1x1x64x1024.size inb') (fun _ => rfl)).squeeze S64x1024 squeezes_S1x1x64x1024_S64x1024) (.dma (sRef k sin)) hsc)
            (.dma (rRef k rin)) hsrc hdst hsem) kk) Q) := by
  obtain ⟨hk, rfl, rfl⟩ := hi
  obtain ⟨rfl, rfl, rfl, rfl⟩ := hl
  subst hn hoff
  have hp := peer_of c hk
  iintro ⟨#HR, Hx, HO, Hs, Hd⟩
  iapply (send m K c i (src := quar Xm (kq (parF l) q c)) (dst := blk R2m l q) hp.symm (sS_eq i rfl) (rS_eq i rfl) ((rfl : _ = N64).trans (NN_of hk nofun).symm) fullShare
    (tr (acc m l.val c (kq (parF l) q c))) iprop(emp)
    (by rw [hk]; exact own_any c _ _ _)
    (by
      rw [hp, hk]; refine (drop_emp _).trans ?_
      show _ ⊢ own (p2 c) (blk R2m l q) fullShare (tr (acc m l.val (p2 (p2 c)) (kq (parF l) q (p2 c))))
      rw [p2_p2, kq_p2]; exact .rfl)) $$ [Hx HO Hs Hd]
  rw [hp]
  iframe HR Hx HO Hs Hd

theorem a3_rows (l : Fin 3) (q : Fin 2) : xv m (l.val + 1) c (kq (parF l) q c) = xv m (l.val + 1) (p1 c) (kq (1 - parF l) q (p1 c)) := by
  rw [xv_other, p1_p1, kq_p1, show (1 - (1 - parF l) : Fin 2) = parF l from (by generalize parF l = r; revert r; decide)]
  exact xv_keep m l.val q c

/-- The next rows to the first partner, half the source's share with them: in all layers but the last. -/
theorem send_a3 (hl : Ly l ln ln' p p') (h2 : l ≠ 2) (hi : Is i k k' (.a3 l q)) (hn : n = p1 c) {off : Fin 2 → ℕ} (hoff : off = ![64 * (kq p q c).val, 0])
    {inb : ∀ a, off a + S64x1024.size a ≤ S256x1024.size a} {hsc hsrc hdst hsem}
    {α : Type} {Q : α → sProp 𝕄} {kk : PUnit → Prog (TpuEff nD τ sig (Elt F) Λ₀ .tc) α} :
    iprop(recs m K ∗ xTodo F c i ∗ OW F c k ∗ own c (quar Xm (kq p q c)) fullShare (xv m ln' c (kq p q c)) ∗ any (p1 c) (quar Xm (kq p q c)) fullShare)
      ⊢ iprop(((xAir F c i ∗ OW F c k' ∗ own c (quar Xm (kq p q c)) fullShare.left (xv m ln' c (kq p q c))) -∗ WP c (kk ⟨⟩) Q)
          -∗ WP c (.op (.enqueueDma (Xm.slice (Rect.unit (s := S256x1024) off S64x1024.size inb) (fun _ => rfl))
            (.remote (Dev.tc n : Thread nD τ) (Xm.slice (Rect.unit (s := S256x1024) off S64x1024.size inb) (fun _ => rfl)) (.dma (sRef k sin)) hsc)
            (.dma (rRef k rin)) hsrc hdst hsem) kk) Q) := by
  obtain ⟨hk, rfl, rfl⟩ := hi
  obtain ⟨rfl, rfl, rfl, rfl⟩ := hl
  subst hn hoff
  have hp := peer_of c hk
  iintro ⟨#HR, Hx, HO, Hs, Hd⟩ Hk
  ihave Hs2 := (own_halve c (quar Xm (kq (parF l) q c)) (xv m (l.val + 1) c (kq (parF l) q c))) $$ Hs
  icases Hs2 with ⟨Hl, Hr⟩
  iapply (send_lend m K c i (src := quar Xm (kq (parF l) q c)) (dst := quar Xm (kq (parF l) q c)) hp.symm (sS_eq i rfl) (rS_eq i rfl) ((rfl : _ = N64).trans (NN_of hk nofun).symm) fullShare.right
    (xv m (l.val + 1) c (kq (parF l) q c))
    (by rw [hk]; show _ ⊢ (if l = 2 then _ else iprop(emp)); rw [if_neg h2])
    (by
      rw [hp, hk]
      show _ ⊢ iprop(own (p1 c) (quar Xm (kq (1 - parF l) q (p1 c))) fullShare (xv m (l.val + 1) (p1 c) (kq (1 - parF l) q (p1 c)))
        ∗ (if l = 2 then iprop(emp) else any (p1 (p1 c)) (quar Xm (kq (1 - parF l) q (p1 c))) fullShare.right))
      rw [if_neg h2, p1_p1, ← a3_rows, kq_p1, show (1 - (1 - parF l) : Fin 2) = parF l from (by generalize parF l = r; revert r; decide)]; exact .rfl)) $$ [Hx HO Hr Hd]
  · rw [hp]
    iframe HR Hx HO Hr Hd
  iintro ⟨Hx, HO⟩
  iapply Hk
  iframe Hx HO Hl

/-- The last rows to the first partner. -/
theorem send_a3' (hl : Ly l ln ln' p p') (h2 : l = 2) (hi : Is i k k' (.a3 l q)) (hn : n = p1 c) {off : Fin 2 → ℕ} (hoff : off = ![64 * (kq p q c).val, 0])
    {inb : ∀ a, off a + S64x1024.size a ≤ S256x1024.size a} {hsc hsrc hdst hsem}
    {α : Type} {Q : α → sProp 𝕄} {kk : PUnit → Prog (TpuEff nD τ sig (Elt F) Λ₀ .tc) α} :
    iprop(recs m K ∗ xTodo F c i ∗ OW F c k ∗ own c (quar Xm (kq p q c)) fullShare (xv m ln' c (kq p q c)) ∗ any (p1 c) (quar Xm (kq p q c)) fullShare)
      ⊢ iprop(((xAir F c i ∗ OW F c k') -∗ WP c (kk ⟨⟩) Q)
          -∗ WP c (.op (.enqueueDma (Xm.slice (Rect.unit (s := S256x1024) off S64x1024.size inb) (fun _ => rfl))
            (.remote (Dev.tc n : Thread nD τ) (Xm.slice (Rect.unit (s := S256x1024) off S64x1024.size inb) (fun _ => rfl)) (.dma (sRef k sin)) hsc)
            (.dma (rRef k rin)) hsrc hdst hsem) kk) Q) := by
  obtain ⟨hk, rfl, rfl⟩ := hi
  obtain ⟨rfl, rfl, rfl, rfl⟩ := hl
  subst hn hoff
  have hp := peer_of c hk
  iintro ⟨#HR, Hx, HO, Hs, Hd⟩
  iapply (send m K c i (src := quar Xm (kq (parF l) q c)) (dst := quar Xm (kq (parF l) q c)) hp.symm (sS_eq i rfl) (rS_eq i rfl) ((rfl : _ = N64).trans (NN_of hk nofun).symm) fullShare
    (xv m (l.val + 1) c (kq (parF l) q c)) iprop(emp)
    (by rw [hk]; show _ ⊢ (if l = 2 then any c (quar Xm (kq (parF l) q c)) fullShare else iprop(emp)); rw [if_pos h2]; exact own_any c _ _ _)
    (by
      rw [hp, hk]
      show _ ⊢ iprop(own (p1 c) (quar Xm (kq (1 - parF l) q (p1 c))) fullShare (xv m (l.val + 1) (p1 c) (kq (1 - parF l) q (p1 c)))
        ∗ (if l = 2 then iprop(emp) else any (p1 (p1 c)) (quar Xm (kq (1 - parF l) q (p1 c))) fullShare.right))
      rw [if_pos h2, ← a3_rows, kq_p1, show (1 - (1 - parF l) : Fin 2) = parF l from (by generalize parF l = r; revert r; decide)]; exact .rfl)) $$ [Hx HO Hs Hd]
  rw [hp]
  iframe HR Hx HO Hs Hd

end Sends

/-- The next layer's rows of a kept quarter are the rounded sum over the pairs of pairs. -/
theorem xv_next {l : Fin 3} {ln ln' : ℕ} {p p' : Fin 2} (hl : Ly l ln ln' p p') (q : Fin 2) :
    tr (addf (acc m ln c (kq p q c)) (ex (tr (acc m ln (p2 c) (kq p q c))))) = xv m ln' c (kq p q c) := by
  obtain ⟨rfl, rfl, rfl, rfl⟩ := hl
  exact (xv_keep m l.val q c).symm

/-- A copy into a buffer whose contents are known. -/
theorem copy_in' {sp sp' : Space} {s : Shape} {e : EltTy} {x y : DmaSem sig} (hy : y = x) (hpos : 0 < s.numel)
    (src : Memref sig .tc sp s e) (dst : Memref sig .tc sp' s e) (X Y : s.Idx → Elt F e)
    {hsrc : src.view.WordExact} {hdst : dst.view.WordExact} {hsem : DmaTarget.Typed (nD := nD) sp (.dma y) (.here (p := (c : Thread nD τ).2) dst)}
    {α : Type} {Q : α → sProp 𝕄} {k : PUnit → Prog (TpuEff nD τ sig (Elt F) Λ₀ .tc) α} :
    iprop(own c src fullShare X ∗ own c dst fullShare Y ∗ semVal ((c : Thread nD τ), .dma x) 0)
      ⊢ iprop((fly c x src dst X -∗ WP c (k ⟨⟩) Q)
        -∗ WP c (.op (.enqueueDma src (.here (p := (c : Thread nD τ).2) dst) (.dma y) hsrc hdst hsem) k) Q) := by
  iintro ⟨Hs, Hd, Hv⟩
  iapply (copy_in c hy hpos src dst X)
  iframe Hs Hv
  iapply (own_any c dst fullShare Y); iexact Hd

/-! ## The barrier, the device's number, the end of a part -/

theorem wp_end {α : Type} {Q : α → sProp 𝕄} (a : α) : Q a ⊢ WP c (.ret a) Q := by
  unfold WP; rw [wp_ret]; exact fupd_intro
theorem wp_dev {α : Type} {Q : α → sProp 𝕄} {k : Dev nD → Prog (TpuEff nD τ sig (Elt F) Λ₀ .tc) α} :
    WP c (k c) Q ⊢ WP c (.op .deviceId k) Q := Entails.of_eq (wp_deviceId (c := (c : Thread nD τ)) ..).symm
theorem wp_seq {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := Entails.of_eq (wp_bind ..).symm

/-- The signal to the first partner, with the buffers it will write here. -/
theorem sig_1 {n : Dev nD} (hn : n = p1 c) {W : Waits sig Unit} {α : Type} {Q : α → sProp 𝕄} {k : PUnit → Prog (TpuEff nD τ sig (Elt F) Λ₀ .tc) α} :
    iprop(recs m K ∗ dutyTok ER (barCell (p1 c)) 0 false ∗ owes (c : Thread nD τ) (O₀ c) W ∗ any c (quar Xm (xq (p1 c))) fullShare ∗ any c R1m fullShare)
      ⊢ iprop((owes (c : Thread nD τ) (O₁ c) W -∗ WP c (k ⟨⟩) Q) -∗ WP c (.op (.semSignal (n, .tc) barS (1#32).toInt) k) Q) := by
  subst hn
  iintro ⟨#HR, Ht, HO, HX, HY⟩
  iapply (Rounds.wp_signal 𝒱₀ ER (Rd m) (c : Thread nD τ) none (dst := (p1 c : Thread nD τ)) (κ := K (p1 c, 0))
      (d := false) (by rw [duties_bar]; exact Finset.mem_univ _) ((amount_bar m (p1 c) false).trans (by decide)) () (O₁ c) rfl)
  isplitr; · iapply (inv_b m K (p1 c)); iexact HR
  isplitl [HO]; · iexact HO
  isplitl [Ht]; · iexact Ht
  isplitl [HX HY]
  · rw [payload_bar1]; unfold barPay1; rw [p1_p1]; iframe HX HY
  iapply (reached_b m K (p1 c)); iexact HR

/-- The signal to the second partner, with the buffers it will write here. -/
theorem sig_2 {n : Dev nD} (hn : n = p2 c) {W : Waits sig Unit} {α : Type} {Q : α → sProp 𝕄} {k : PUnit → Prog (TpuEff nD τ sig (Elt F) Λ₀ .tc) α} :
    iprop(recs m K ∗ dutyTok ER (barCell (p2 c)) 0 true ∗ owes (c : Thread nD τ) (O₁ c) W ∗ any c (half Xm (gh (p2 c))) fullShare ∗ any c R2m fullShare)
      ⊢ iprop((owes (c : Thread nD τ) (owed c 0) W -∗ WP c (k ⟨⟩) Q) -∗ WP c (.op (.semSignal (n, .tc) barS (1#32).toInt) k) Q) := by
  subst hn
  iintro ⟨#HR, Ht, HO, HX, HY⟩
  iapply (Rounds.wp_signal 𝒱₀ ER (Rd m) (c : Thread nD τ) none (dst := (p2 c : Thread nD τ)) (κ := K (p2 c, 0))
      (d := true) (by rw [duties_bar]; exact Finset.mem_univ _) ((amount_bar m (p2 c) true).trans (by decide)) () (owed c 0) rfl)
  isplitr; · iapply (inv_b m K (p2 c)); iexact HR
  isplitl [HO]; · iexact HO
  isplitl [Ht]; · iexact Ht
  isplitl [HX HY]
  · rw [payload_bar2]; unfold barPay2; rw [p2_p2]; iframe HX HY
  iapply (reached_b m K (p2 c)); iexact HR

/-- The wait for both signals: the partners' buffers this device will write. -/
theorem wait_bar {W : Waits sig Unit} {α : Type} {Q : α → sProp 𝕄} {k : PUnit → Prog (TpuEff nD τ sig (Elt F) Λ₀ .tc) α} :
    iprop(recs m K ∗ atPos ER (barCell c) 0 ∅ 0 ∗ cred (tallyAt (barCell c) () 2) ∗ owes (c : Thread nD τ) (owed c 0) W)
      ⊢ iprop(((OW F c 0 ∗ semVal (barCell c) 0 ∗ barPay1 c ∗ barPay2 c) -∗ WP c (k ⟨⟩) Q) -∗ WP c (.op (.semWait barS (2#32).toInt) k) Q) := by
  iintro ⟨#HR, Hat, Hc, HO⟩ Hk
  iapply (Rounds.wp_wait_rest_token 𝒱₀ ER (Rd m) (c : Thread nD τ) none (κ := K (c, 0)) (k' := 2)
      (wpE_semWait_eq 𝒱₀ (c : Thread nD τ) none Set.univ) (Set.mem_univ _) () (O := owed c 0) (W := W) (R := 0) (m := 0) (T := ∅)
      (by rw [expect_bar])) $$ [Hc HO Hat]
  · isplitr; · iapply (inv_b m K c); iexact HR
    isplitl [Hc]; · iexact Hc
    isplitl [HO]; · iexact HO
    isplitr; · iapply (mayWait_owed c (.reg barS) 0 1 (le_of_eq (by unfold lv; rw [role_bar])) (by omega)); iapply (recs_lev m K); iexact HR
    iexact Hat
  iintro ⟨HO, Hat, -, Hpay⟩
  ihave Hp := (Entails.of_eq (rest_bar m c)) $$ Hpay
  icases Hp with ⟨H1, H2⟩
  imod (Rounds.cell_close ER (Rd m) (Set.mem_univ (K (c, 0))) (fun h => h) (R := 0 + 1) (duties_later m (barCell c))) $$ [Hat] with Hz
  · isplitr; · iapply (inv_b m K c); iexact HR
    iexact Hat
  iapply Hk
  isplitl [HO]; · unfold OW; iexists _; iexact HO
  iframe Hz H1 H2

/-! ## The waits -/

section Waits
variable {i : Fin 20} {k k' : ℕ} {l : Fin 3} {ln ln' : ℕ} {p p' q : Fin 2} (kw : ℕ)
  {sin : ∀ a, (![k] : Fin 1 → ℕ) a + S1.size a ≤ S20.size a}
  {srcw dstw : Memref sig .tc .vmem S64x1024 .bf16} {hsrc : srcw.view.WordExact} {hdst : dstw.view.WordExact}
  {α : Type}

theorem ws_g1 (hi : Is i k k' .g1) {Q : α → sProp 𝕄} {kk : PUnit → Prog (TpuEff nD τ sig (Elt F) Λ₀ .tc) α} :
    iprop(recs m K ∗ xAir F c i ∗ OW F c kw)
      ⊢ iprop(((xBack F c i ∗ OW F c kw ∗ own c (quar Xm (xq c)) fullShare (xv m 0 c (xq c))) -∗ WP c (kk ⟨⟩) Q)
        -∗ WP c (.op (.waitDma2 (sRef k sin) srcw dstw hsrc hdst) kk) Q) := by
  obtain ⟨hk, rfl, rfl⟩ := hi
  exact wait_snd m K c i kw (dstw := dstw) (sS_eq i rfl) ((rfl : _ = N64).trans (NN_of hk nofun).symm) _ (by rw [hk]; exact .rfl)

theorem ws_g2 (hi : Is i k k' .g2) {srcw dstw : Memref sig .tc .vmem S128x1024 .bf16} {hsrc : srcw.view.WordExact} {hdst : dstw.view.WordExact}
    {Q : α → sProp 𝕄} {kk : PUnit → Prog (TpuEff nD τ sig (Elt F) Λ₀ .tc) α} :
    iprop(recs m K ∗ xAir F c i ∗ OW F c kw)
      ⊢ iprop(((xBack F c i ∗ OW F c kw ∗ own c (half Xm (gh c)) fullShare (half0 m c (gh c))) -∗ WP c (kk ⟨⟩) Q)
        -∗ WP c (.op (.waitDma2 (sRef k sin) srcw dstw hsrc hdst) kk) Q) := by
  obtain ⟨hk, rfl, rfl⟩ := hi
  have h1 : i = 1 := by revert hk; clear * -; revert i; intro i h; fin_cases i <;> first | rfl | cases h
  exact wait_snd m K c i kw (dstw := dstw) (sS_eq i rfl) (by rw [h1]; rfl) _ (by rw [hk]; exact .rfl)

theorem ws_a1 (hi : Is i k k' (.a1 l q)) {Q : α → sProp 𝕄} {kk : PUnit → Prog (TpuEff nD τ sig (Elt F) Λ₀ .tc) α} :
    iprop(recs m K ∗ xAir F c i ∗ OW F c kw)
      ⊢ iprop(((xBack F c i ∗ OW F c kw ∗ any c (blk S1m l q) fullShare) -∗ WP c (kk ⟨⟩) Q)
        -∗ WP c (.op (.waitDma2 (sRef k sin) srcw dstw hsrc hdst) kk) Q) := by
  obtain ⟨hk, rfl, rfl⟩ := hi
  exact wait_snd m K c i kw (dstw := dstw) (sS_eq i rfl) ((rfl : _ = N64).trans (NN_of hk nofun).symm) _ (by rw [hk]; exact .rfl)

theorem ws_a2 (hl : Ly l ln ln' p p') (hi : Is i k k' (.a2 l q)) {Q : α → sProp 𝕄} {kk : PUnit → Prog (TpuEff nD τ sig (Elt F) Λ₀ .tc) α} :
    iprop(recs m K ∗ xAir F c i ∗ OW F c kw)
      ⊢ iprop(((xBack F c i ∗ OW F c kw ∗ any c (quar Xm (kq p q c)) fullShare) -∗ WP c (kk ⟨⟩) Q)
        -∗ WP c (.op (.waitDma2 (sRef k sin) srcw dstw hsrc hdst) kk) Q) := by
  obtain ⟨hk, rfl, rfl⟩ := hi
  obtain ⟨rfl, rfl, rfl, rfl⟩ := hl
  exact wait_snd m K c i kw (dstw := dstw) (sS_eq i rfl) ((rfl : _ = N64).trans (NN_of hk nofun).symm) _ (by rw [hk]; exact .rfl)

theorem ws_a3 (h2 : l ≠ 2) (hi : Is i k k' (.a3 l q)) {Q : α → sProp 𝕄} {kk : PUnit → Prog (TpuEff nD τ sig (Elt F) Λ₀ .tc) α} :
    iprop(recs m K ∗ xAir F c i ∗ OW F c kw)
      ⊢ iprop(((xBack F c i ∗ OW F c kw) -∗ WP c (kk ⟨⟩) Q)
        -∗ WP c (.op (.waitDma2 (sRef k sin) srcw dstw hsrc hdst) kk) Q) := by
  obtain ⟨hk, rfl, rfl⟩ := hi
  iintro H Hk
  iapply (wait_snd m K c i kw (dstw := dstw) (sS_eq i rfl) ((rfl : _ = N64).trans (NN_of hk nofun).symm) iprop(emp)
    (by rw [hk]; show (if l = 2 then _ else iprop(emp)) ⊢ _; rw [if_neg h2])) $$ [$H]
  iintro ⟨Hx, HO, -⟩
  iapply Hk; iframe Hx HO

theorem ws_a3' (hl : Ly l ln ln' p p') (h2 : l = 2) (hi : Is i k k' (.a3 l q)) {Q : α → sProp 𝕄} {kk : PUnit → Prog (TpuEff nD τ sig (Elt F) Λ₀ .tc) α} :
    iprop(recs m K ∗ xAir F c i ∗ OW F c kw)
      ⊢ iprop(((xBack F c i ∗ OW F c kw ∗ any c (quar Xm (kq p q c)) fullShare) -∗ WP c (kk ⟨⟩) Q)
        -∗ WP c (.op (.waitDma2 (sRef k sin) srcw dstw hsrc hdst) kk) Q) := by
  obtain ⟨hk, rfl, rfl⟩ := hi
  obtain ⟨rfl, rfl, rfl, rfl⟩ := hl
  exact wait_snd m K c i kw (dstw := dstw) (sS_eq i rfl) ((rfl : _ = N64).trans (NN_of hk nofun).symm) _
    (by rw [hk]; show (if l = 2 then any c (quar Xm (kq (parF l) q c)) fullShare else iprop(emp)) ⊢ _; rw [if_pos h2])

theorem wr_g1 (hi : Is i k k' .g1) (hw : k < kw) {Q : α → sProp 𝕄} {kk : PUnit → Prog (TpuEff nD τ sig (Elt F) Λ₀ .tc) α} :
    iprop(recs m K ∗ xBack F c i ∗ OW F c kw)
      ⊢ iprop(((xDone F c i ∗ OW F c kw ∗ own c (quar Xm (xq (p1 c))) fullShare (xv m 0 c (xq (p1 c)))) -∗ WP c (kk ⟨⟩) Q)
        -∗ WP c (.op (.waitDma2 (rRef k sin) srcw dstw hsrc hdst) kk) Q) := by
  obtain ⟨hk, rfl, rfl⟩ := hi
  exact wait_rcv m K c i kw (dstw := dstw) (rS_eq i rfl) ((rfl : _ = N64).trans (NN_of hk nofun).symm) hw _ (by rw [hk]; exact .rfl)

theorem wr_g2 (hi : Is i k k' .g2) (hw : k < kw) {srcw dstw : Memref sig .tc .vmem S128x1024 .bf16} {hsrc : srcw.view.WordExact} {hdst : dstw.view.WordExact}
    {Q : α → sProp 𝕄} {kk : PUnit → Prog (TpuEff nD τ sig (Elt F) Λ₀ .tc) α} :
    iprop(recs m K ∗ xBack F c i ∗ OW F c kw)
      ⊢ iprop(((xDone F c i ∗ OW F c kw ∗ own c (half Xm (gh (p2 c))) fullShare (half0 m c (gh (p2 c)))) -∗ WP c (kk ⟨⟩) Q)
        -∗ WP c (.op (.waitDma2 (rRef k sin) srcw dstw hsrc hdst) kk) Q) := by
  obtain ⟨hk, rfl, rfl⟩ := hi
  have h1 : i = 1 := by revert hk; clear * -; revert i; intro i h; fin_cases i <;> first | rfl | cases h
  exact wait_rcv m K c i kw (dstw := dstw) (rS_eq i rfl) (by rw [h1]; rfl) hw _ (by rw [hk]; exact .rfl)

theorem wr_a1 (hl : Ly l ln ln' p p') (hi : Is i k k' (.a1 l q)) (hw : k < kw) {Q : α → sProp 𝕄} {kk : PUnit → Prog (TpuEff nD τ sig (Elt F) Λ₀ .tc) α} :
    iprop(recs m K ∗ xBack F c i ∗ OW F c kw)
      ⊢ iprop(((xDone F c i ∗ OW F c kw ∗ own c (blk R1m l q) fullShare (tr (hid m ln (p1 c) (kq p q c)))
          ∗ any (p1 c) (quar Xm (kq p q c)) (shr l)) -∗ WP c (kk ⟨⟩) Q)
        -∗ WP c (.op (.waitDma2 (rRef k sin) srcw dstw hsrc hdst) kk) Q) := by
  obtain ⟨hk, rfl, rfl⟩ := hi
  obtain ⟨rfl, rfl, rfl, rfl⟩ := hl
  exact wait_rcv m K c i kw (dstw := dstw) (rS_eq i rfl) ((rfl : _ = N64).trans (NN_of hk nofun).symm) hw _ (by rw [hk]; exact .rfl)

theorem wr_a2 (hl : Ly l ln ln' p p') (hi : Is i k k' (.a2 l q)) (hw : k < kw) {Q : α → sProp 𝕄} {kk : PUnit → Prog (TpuEff nD τ sig (Elt F) Λ₀ .tc) α} :
    iprop(recs m K ∗ xBack F c i ∗ OW F c kw)
      ⊢ iprop(((xDone F c i ∗ OW F c kw ∗ own c (blk R2m l q) fullShare (tr (acc m ln (p2 c) (kq p q c)))) -∗ WP c (kk ⟨⟩) Q)
        -∗ WP c (.op (.waitDma2 (rRef k sin) srcw dstw hsrc hdst) kk) Q) := by
  obtain ⟨hk, rfl, rfl⟩ := hi
  obtain ⟨rfl, rfl, rfl, rfl⟩ := hl
  exact wait_rcv m K c i kw (dstw := dstw) (rS_eq i rfl) ((rfl : _ = N64).trans (NN_of hk nofun).symm) hw _ (by rw [hk]; exact .rfl)

theorem wr_a3 (hl : Ly l ln ln' p p') (h2 : l ≠ 2) (hi : Is i k k' (.a3 l q)) (hw : k < kw) {Q : α → sProp 𝕄} {kk : PUnit → Prog (TpuEff nD τ sig (Elt F) Λ₀ .tc) α} :
    iprop(recs m K ∗ xBack F c i ∗ OW F c kw)
      ⊢ iprop(((xDone F c i ∗ OW F c kw ∗ own c (quar Xm (kq p' q c)) fullShare (xv m ln' c (kq p' q c))
          ∗ any (p1 c) (quar Xm (kq p' q c)) fullShare.right) -∗ WP c (kk ⟨⟩) Q)
        -∗ WP c (.op (.waitDma2 (rRef k sin) srcw dstw hsrc hdst) kk) Q) := by
  obtain ⟨hk, rfl, rfl⟩ := hi
  obtain ⟨rfl, rfl, rfl, rfl⟩ := hl
  refine wait_rcv m K c i kw (dstw := dstw) (rS_eq i rfl) ((rfl : _ = N64).trans (NN_of hk nofun).symm) hw _ (by
    rw [hk]
    show iprop(_ ∗ (if l = 2 then iprop(emp) else _)) ⊢ _
    rw [if_neg h2])

theorem wr_a3' (hl : Ly l ln ln' p p') (h2 : l = 2) (hi : Is i k k' (.a3 l q)) (hw : k < kw) {Q : α → sProp 𝕄} {kk : PUnit → Prog (TpuEff nD τ sig (Elt F) Λ₀ .tc) α} :
    iprop(recs m K ∗ xBack F c i ∗ OW F c kw)
      ⊢ iprop(((xDone F c i ∗ OW F c kw ∗ own c (quar Xm (kq p' q c)) fullShare (xv m ln' c (kq p' q c))) -∗ WP c (kk ⟨⟩) Q)
        -∗ WP c (.op (.waitDma2 (rRef k sin) srcw dstw hsrc hdst) kk) Q) := by
  obtain ⟨hk, rfl, rfl⟩ := hi
  obtain ⟨rfl, rfl, rfl, rfl⟩ := hl
  refine wait_rcv m K c i kw (dstw := dstw) (rS_eq i rfl) ((rfl : _ = N64).trans (NN_of hk nofun).symm) hw _ (by
    rw [hk]
    show iprop(own c (quar Xm (kq (1 - parF l) q c)) fullShare (xv m (l.val + 1) c (kq (1 - parF l) q c)) ∗ (if l = 2 then iprop(emp) else _)) ⊢ _
    rw [if_pos h2]; exact drop_emp _)

end Waits

end Cert.KernelIdeal.Pf
-- ==== Proof.Parts1.lean ====
/-
The kernel's first half, part by part: the gathering, the first layer, and the second layer up to its own partial
products. Each part is run from what it needs to what it leaves.
-/
module

public import proofs.«01_k».proof.Proof.Moves

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ) (c : Dev nD)

/-! ## What a device holds, between the parts -/

abbrev G1 : Memref sig .tc .hbm S1024x2048 .f32 := Memref.whole main_arg1
abbrev G2 : Memref sig .tc .hbm S2048x1024 .f32 := Memref.whole main_arg2
abbrev G3 : Memref sig .tc .hbm S1024x2048 .f32 := Memref.whole main_arg3
abbrev G4 : Memref sig .tc .hbm S2048x1024 .f32 := Memref.whole main_arg4
abbrev G5 : Memref sig .tc .hbm S1024x2048 .f32 := Memref.whole main_arg5
abbrev G6 : Memref sig .tc .hbm S2048x1024 .f32 := Memref.whole main_arg6

/-- Layer `n`'s rows of quarter `q` of the half of parity `p`, and half the share of them. -/
abbrev xO (n : ℕ) (p q : Fin 2) : sProp 𝕄 := own c (quar Xm (kq p q c)) fullShare (xv m n c (kq p q c))
abbrev xL (n : ℕ) (p q : Fin 2) : sProp 𝕄 := own c (quar Xm (kq p q c)) fullShare.left (xv m n c (kq p q c))
/-- The pair's sum of a quarter, rounded. -/
abbrev xS (n : ℕ) (p q : Fin 2) : sProp 𝕄 := own c (quar Xm (kq p q c)) fullShare (tr (acc m n c (kq p q c)))
variable (F) in
/-- A quarter at any contents; the first partner's. -/
abbrev xA (p q : Fin 2) : sProp 𝕄 := any (F := F) c (quar Xm (kq p q c)) fullShare
variable (F) in
abbrev yA (p q : Fin 2) (s : PosShare TreeShare) : sProp 𝕄 := any (F := F) (p1 c) (quar Xm (kq p q c)) s
/-- The sums so far of a quarter: the partial product, the pair's, all four devices'. -/
abbrev aH (n : ℕ) (p q : Fin 2) : sProp 𝕄 := own c (quar Am (kq p q c)) fullShare (hid m n c (kq p q c))
abbrev aC (n : ℕ) (p q : Fin 2) : sProp 𝕄 := own c (quar Am (kq p q c)) fullShare (acc m n c (kq p q c))
abbrev aR (n : ℕ) (p q : Fin 2) : sProp 𝕄 := own c (quar Am (kq p q c)) fullShare (res m n c (kq p q c))
variable (F) in
abbrev aA (p q : Fin 2) : sProp 𝕄 := any (F := F) c (quar Am (kq p q c)) fullShare
/-- A partial product on its way out; a block of the outgoing buffer, and of the partners' incoming ones. -/
abbrev sO (l : Fin 3) (n : ℕ) (p q : Fin 2) : sProp 𝕄 := own c (blk S1m l q) fullShare (tr (hid m n c (kq p q c)))
variable (F) in
abbrev sA (l : Fin 3) (q : Fin 2) : sProp 𝕄 := any (F := F) c (blk S1m l q) fullShare
variable (F) in
abbrev r1P (l : Fin 3) (q : Fin 2) : sProp 𝕄 := any (F := F) (p1 c) (blk R1m l q) fullShare
variable (F) in
abbrev r2P (l : Fin 3) (q : Fin 2) : sProp 𝕄 := any (F := F) (p2 c) (blk R2m l q) fullShare
/-- What landed from the partners. -/
abbrev r1O (l : Fin 3) (n : ℕ) (p q : Fin 2) : sProp 𝕄 := own c (blk R1m l q) fullShare (tr (hid m n (p1 c) (kq p q c)))
abbrev r2O (l : Fin 3) (n : ℕ) (p q : Fin 2) : sProp 𝕄 := own c (blk R2m l q) fullShare (tr (acc m n (p2 c) (kq p q c)))
/-- A layer's rounded weights; the weights as they were. -/
abbrev vW (n : ℕ) : sProp 𝕄 := iprop(own c V1m fullShare (trW1 (w1 m n c)) ∗ own c V2m fullShare (trW2 (w2 m n c)))
abbrev uW (n : ℕ) : sProp 𝕄 := iprop(own c U1m fullShare (w1 m n c) ∗ own c U2m fullShare (w2 m n c))

theorem z2 : (![0, 0] : Fin 2 → ℕ) = fun _ => 0 := by funext a; fin_cases a <;> rfl

/-- A device's own rows and its first partner's are one of the halves. -/
theorem own_rows (c : Dev nD) : (xq c = qt (gh c) 0 ∧ xq (p1 c) = qt (gh c) 1) ∨ (xq c = qt (gh c) 1 ∧ xq (p1 c) = qt (gh c) 0) := by
  revert c; decide
/-- That half and the second partner's are the two halves. -/
theorem own_halves (c : Dev nD) : (gh c = kh 0 c ∧ gh (p2 c) = kh 1 c) ∨ (gh c = kh 1 c ∧ gh (p2 c) = kh 0 c) := by
  revert c; decide
theorem kh_cases (c : Dev nD) : (kh 0 c = 0 ∧ kh 1 c = 1) ∨ (kh 0 c = 1 ∧ kh 1 c = 0) := by revert c; decide

theorem pair_join :
    iprop(own c (quar Xm (xq c)) fullShare (xv m 0 c (xq c)) ∗ own c (quar Xm (xq (p1 c))) fullShare (xv m 0 c (xq (p1 c))))
      ⊢ (own c (half Xm (gh c)) fullShare (half0 m c (gh c)) : sProp 𝕄) := by
  have hj := own_half (F := F) c fullShare Xm (gh c) (fun q => xv m 0 c (qt (gh c) q))
  rcases own_rows c with ⟨h0, h1⟩ | ⟨h0, h1⟩ <;> rw [h0, h1]
  · exact hj
  · exact sep_comm.trans hj

theorem halves_quarters :
    iprop(own c (half Xm (gh c)) fullShare (half0 m c (gh c)) ∗ own c (half Xm (gh (p2 c))) fullShare (half0 m c (gh (p2 c))))
      ⊢ (iprop(xO m c 0 0 0 ∗ xO m c 0 0 1 ∗ xO m c 0 1 0 ∗ xO m c 0 1 1) : sProp 𝕄) := by
  have hs (h : Fin 2) := own_unhalf_glue (F := F) c fullShare Xm h (fun q => xv m 0 c (qt h q))
  have key : iprop(own c (half Xm (kh 0 c)) fullShare (half0 m c (kh 0 c)) ∗ own c (half Xm (kh 1 c)) fullShare (half0 m c (kh 1 c)))
      ⊢ (iprop(xO m c 0 0 0 ∗ xO m c 0 0 1 ∗ xO m c 0 1 0 ∗ xO m c 0 1 1) : sProp 𝕄) := by
    iintro ⟨H0, H1⟩
    ihave H0 := (hs (kh 0 c)) $$ H0
    ihave H1 := (hs (kh 1 c)) $$ H1
    icases H0 with ⟨Ha, Hb⟩
    icases H1 with ⟨Hc, Hd⟩
    unfold xO kq
    iframe Ha Hb Hc Hd
  rcases own_halves c with ⟨h0, h1⟩ | ⟨h0, h1⟩ <;> rw [h0, h1]
  · exact key
  · exact sep_comm.trans key

/-! ## The gathering and the first layer -/

/-- The two signals and the wait for the partners'; the device's own rows rounded; the first weights' copies begun. -/
theorem part1 {Q : (Σ' (_ : Dev nD) (_ : BitVec 32) (_ : BitVec 32) (_ : BitVec 32) (_ : BitVec 32), BitVec 32) → sProp 𝕄} :
    iprop(recs m K ∗ dutyTok ER (barCell (p1 c)) 0 false ∗ dutyTok ER (barCell (p2 c)) 0 true ∗ atPos ER (barCell c) 0 ∅ 0 ∗ cred (tallyAt (barCell c) () 2)
        ∗ (∃ W, owes (c : Thread nD τ) (O₀ c) W) ∗ own c Bx fullShare (xin m c) ∗ any c (quar Xm (xq c)) fullShare ∗ any c (quar Xm (xq (p1 c))) fullShare
        ∗ any c (half Xm (gh (p2 c))) fullShare ∗ any c R1m fullShare ∗ any c R2m fullShare ∗ own c G1 fullShare (w1 m 0 c) ∗ own c G2 fullShare (w2 m 0 c)
        ∗ any c U1m fullShare ∗ any c U2m fullShare ∗ semVal ((c : Thread nD τ), .dma (dS 0)) 0 ∗ semVal ((c : Thread nD τ), .dma (dS 1)) 0)
      ⊢ iprop((∀ v2 v3 v4 v8 c1, (OW F c 0 ∗ semVal (barCell c) 0 ∗ barPay1 c ∗ barPay2 c ∗ own c Bx fullShare (xin m c)
          ∗ own c (quar Xm (xq c)) fullShare (xv m 0 c (xq c)) ∗ fly c (dS 0) G1 U1m (w1 m 0 c) ∗ fly c (dS 1) G2 U2m (w2 m 0 c)) -∗ Q ⟨c, v2, v3, v4, v8, c1⟩)
        -∗ WP c (k0_part1 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11) Q) := by
  simp only [k0_part1_eq_skeleton]; unfold k0_part1_skel
  simp only [semSignalWord, semWaitWord, Prog.lift, Prog.bind_op, Prog.bind_ret, Prog.pure_eq_ret]
  iintro ⟨#HR, Ht1, Ht2, Hat, Hc, ⟨%W, HO⟩, HB, HX, HX1, HX2, HR1, HR2, HG1, HG2, HU1, HU2, Hd0, Hd1⟩ Hk
  iapply (wp_dev c)
  iapply (sig_1 m K c (dev1_eq c)) $$ [$HR $Ht1 $HO $HX1 $HR1]; iintro HO
  iapply (sig_2 m K c (dev2_eq c)) $$ [$HR $Ht2 $HO $HX2 $HR2]; iintro HO
  iapply (wait_bar m K c) $$ [$HR $Hat $Hc $HO]; iintro ⟨HO, Hz, Hp1, Hp2⟩
  iapply (load_w c Bx z2 fullShare (xin m c)) $$ [$HB]; iintro HB
  iapply (upd_q c Xm (xq c) (off1_eq c) (off1_eq c) (w' := xv m 0 c (xq c)) (pay2_eq (xin m c))) $$ [$HX]; iintro HX
  iapply (copy_in c (dS_eq 0 rfl) (by decide) G1 U1m (w1 m 0 c)) $$ [$HG1 $HU1 $Hd0]; iintro Hf0
  iapply (copy_in c (dS_eq 1 rfl) (by decide) G2 U2m (w2 m 0 c)) $$ [$HG2 $HU2 $Hd1]; iintro Hf1
  iapply (wp_end c)
  iapply Hk
  iframe HO Hz Hp1 Hp2 HB HX Hf0 Hf1

/-- The first exchange of the gathering. -/
theorem part2 (v2 v3 c1 : BitVec 32) {Q : (Σ' (_ : BitVec 32), BitVec 32) → sProp 𝕄} :
    iprop(recs m K ∗ xTodo F c 0 ∗ OW F c 0 ∗ own c (quar Xm (xq c)) fullShare (xv m 0 c (xq c)) ∗ any (p1 c) (quar Xm (xq c)) fullShare)
      ⊢ iprop((∀ v c', (xDone F c 0 ∗ OW F c 1 ∗ own c (quar Xm (xq c)) fullShare (xv m 0 c (xq c))
          ∗ own c (quar Xm (xq (p1 c))) fullShare (xv m 0 c (xq (p1 c)))) -∗ Q ⟨v, c'⟩)
        -∗ WP c (k0_part2 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v2 v3 c1) Q) := by
  simp only [k0_part2_eq_skeleton]; unfold k0_part2_skel
  simp only [Prog.lift, Prog.bind_op, Prog.bind_ret, Prog.pure_eq_ret]
  iintro ⟨#HR, Hx, HO, HX, HY⟩ Hk
  iapply (send_g1 m K c is0 (dev3_eq c) (off2_eq c)) $$ [$HR $Hx $HO $HX $HY]; iintro ⟨Hx, HO⟩
  iapply (ws_g1 m K c 1 is0) $$ [$HR $Hx $HO]; iintro ⟨Hx, HO, HX⟩
  iapply (wr_g1 m K c 1 is0 (by decide)) $$ [$HR $Hx $HO]; iintro ⟨Hx, HO, HY⟩
  iapply (wp_end c)
  iapply Hk
  iframe Hx HO HX HY

/-- The second exchange begun; the first layer's weights rounded. -/
theorem part3 (v4 v61 c128 : BitVec 32) {Q : PUnit → sProp 𝕄} :
    iprop(recs m K ∗ xTodo F c 1 ∗ OW F c 1 ∗ own c (quar Xm (xq c)) fullShare (xv m 0 c (xq c))
        ∗ own c (quar Xm (xq (p1 c))) fullShare (xv m 0 c (xq (p1 c))) ∗ any (p2 c) (half Xm (gh c)) fullShare
        ∗ fly c (dS 0) G1 U1m (w1 m 0 c) ∗ fly c (dS 1) G2 U2m (w2 m 0 c) ∗ any c V1m fullShare ∗ any c V2m fullShare)
      ⊢ iprop(((xBack F c 1 ∗ OW F c 2 ∗ own c (half Xm (gh c)) fullShare (half0 m c (gh c)) ∗ own c G1 fullShare (w1 m 0 c) ∗ own c G2 fullShare (w2 m 0 c)
          ∗ uW m c 0 ∗ vW m c 0 ∗ semVal ((c : Thread nD τ), .dma (dS 0)) 0 ∗ semVal ((c : Thread nD τ), .dma (dS 1)) 0) -∗ Q ⟨⟩)
        -∗ WP c (k0_part3 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v61 c128) Q) := by
  simp only [k0_part3_eq_skeleton]; unfold k0_part3_skel
  simp only [Prog.lift, Prog.bind_op, Prog.bind_ret, Prog.pure_eq_ret]
  iintro ⟨#HR, Hx, HO, HX, HX1, HY, Hf0, Hf1, HV1, HV2⟩ Hk
  ihave HX := (pair_join m c) $$ [HX HX1]; · iframe HX HX1
  iapply (send_g2 m K c is1 (dev4_eq c) (off3_eq c)) $$ [$HR $Hx $HO $HX $HY]; iintro ⟨Hx, HO⟩
  iapply (copy_wait m K c (dS_eq 0 rfl) (lv_dS 0 c) (src := G1) (dst := U1m) (w1 m 0 c) 2) $$ [$HR $Hf0 $HO]; iintro ⟨HG1, HU1, Hd0, HO⟩
  iapply (copy_wait m K c (dS_eq 1 rfl) (lv_dS 1 c) (src := G2) (dst := U2m) (w2 m 0 c) 2) $$ [$HR $Hf1 $HO]; iintro ⟨HG2, HU2, Hd1, HO⟩
  iapply (load_w c U1m z2 fullShare (w1 m 0 c)) $$ [$HU1]; iintro HU1
  iapply (upd_w c V1m z2 (w' := trW1 (w1 m 0 c)) (pay3_eq (w1 m 0 c))) $$ [$HV1]; iintro HV1
  iapply (load_w c U2m z2 fullShare (w2 m 0 c)) $$ [$HU2]; iintro HU2
  iapply (upd_w c V2m z2 (w' := trW2 (w2 m 0 c)) (pay4_eq (w2 m 0 c))) $$ [$HV2]; iintro HV2
  iapply (ws_g2 m K c 2 is1) $$ [$HR $Hx $HO]; iintro ⟨Hx, HO, HX⟩
  iapply (wp_end c)
  iapply Hk
  iframe Hx HO HX HG1 HG2 HU1 HU2 HV1 HV2 Hd0 Hd1

/-- All rows gathered; the first partial product for the partner. -/
theorem part4 (v8 : BitVec 32) {Q : FVec F S64x1024 .bf16 → sProp 𝕄} :
    iprop(recs m K ∗ xBack F c 1 ∗ OW F c 2 ∗ own c (half Xm (gh c)) fullShare (half0 m c (gh c)) ∗ vW m c 0 ∗ sA F c 0 0)
      ⊢ iprop(((xDone F c 1 ∗ OW F c 2 ∗ xO m c 0 0 0 ∗ xO m c 0 0 1 ∗ xO m c 0 1 0 ∗ xO m c 0 1 1 ∗ vW m c 0 ∗ sO m c 0 0 1 0)
          -∗ Q (k0_pay6 (xv m 0 c (kq 1 1 c)) (trW1 (w1 m 0 c)) (trW2 (w2 m 0 c))))
        -∗ WP c (k0_part4 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v8) Q) := by
  simp only [k0_part4_eq_skeleton]; unfold k0_part4_skel
  simp only [Prog.lift, Prog.bind_op, Prog.bind_ret, Prog.pure_eq_ret]
  iintro ⟨#HR, Hx, HO, HX, ⟨HV1, HV2⟩, HS⟩ Hk
  iapply (wr_g2 m K c 2 is1 (by decide)) $$ [$HR $Hx $HO]; iintro ⟨Hx, HO, HY⟩
  ihave HX := (halves_quarters m c) $$ [HX HY]; · iframe HX HY
  icases HX with ⟨H00, H01, H10, H11⟩
  iapply (load_q c Xm _ (off4_eq c) fullShare (xv m 0 c (kq 1 0 c))) $$ [$H10]; iintro H10
  iapply (load_w c V1m z2 fullShare (trW1 (w1 m 0 c))) $$ [$HV1]; iintro HV1
  iapply (load_w c V2m z2 fullShare (trW2 (w2 m 0 c))) $$ [$HV2]; iintro HV2
  iapply (upd_b c S1m 0 0 rfl (w' := tr (hid m 0 c (kq 1 0 c))) (pay5_eq (xv m 0 c (kq 1 0 c)) (trW1 (w1 m 0 c)) (trW2 (w2 m 0 c)))) $$ [$HS]; iintro HS
  iapply (load_q c Xm _ (off5_eq c) fullShare (xv m 0 c (kq 1 1 c))) $$ [$H11]; iintro H11
  iapply (load_w c V1m z2 fullShare (trW1 (w1 m 0 c))) $$ [$HV1]; iintro HV1
  iapply (load_w c V2m z2 fullShare (trW2 (w2 m 0 c))) $$ [$HV2]; iintro HV2
  iapply (wp_end c)
  iapply Hk
  iframe Hx HO H00 H01 H10 H11 HV1 HV2 HS

/-- Both partial products for the partner sent. -/
theorem part5 (v3 v8 : BitVec 32) {Q : (Σ' (_ : BitVec 32) (_ : BitVec 32), Vec F S64x1024 .bf16) → sProp 𝕄} :
    iprop(recs m K ∗ xTodo F c 2 ∗ xTodo F c 3 ∗ OW F c 2 ∗ sO m c 0 0 1 0 ∗ sA F c 0 1 ∗ r1P F c 0 0 ∗ r1P F c 0 1
        ∗ xO m c 0 1 0 ∗ xO m c 0 1 1 ∗ xO m c 0 0 0)
      ⊢ iprop((∀ v125 v126, (xAir F c 2 ∗ xAir F c 3 ∗ OW F c 4 ∗ xO m c 0 0 0) -∗ Q ⟨v125, v126, xv m 0 c (kq 0 0 c)⟩)
        -∗ WP c (k0_part5 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v8 (k0_pay6 (xv m 0 c (kq 1 1 c)) (trW1 (w1 m 0 c)) (trW2 (w2 m 0 c)))) Q) := by
  simp only [k0_part5_eq_skeleton]; unfold k0_part5_skel
  simp only [Prog.lift, Prog.bind_op, Prog.bind_ret, Prog.pure_eq_ret]
  iintro ⟨#HR, Hx2, Hx3, HO, HS0, HS1, HR0, HR1, HX0, HX1, HX⟩ Hk
  ihave HX0 := (own_any c _ _ _) $$ HX0
  ihave HX1 := (own_any c _ _ _) $$ HX1
  iapply (upd_b c S1m 0 1 rfl (w' := tr (hid m 0 c (kq 1 1 c))) (pay7_eq (xv m 0 c (kq 1 1 c)) (trW1 (w1 m 0 c)) (trW2 (w2 m 0 c)))) $$ [$HS1]; iintro HS1
  iapply (send_a1 m K c ly0 is2 (dev5_eq c)) $$ [$HR $Hx2 $HO $HS0 $HR0 $HX0]; iintro ⟨Hx2, HO⟩
  iapply (send_a1 m K c ly0 is3 (dev6_eq c)) $$ [$HR $Hx3 $HO $HS1 $HR1 $HX1]; iintro ⟨Hx3, HO⟩
  iapply (load_q c Xm _ (off6_0_eq c) fullShare _) $$ [$HX]; iintro HX
  iapply (wp_end c)
  iapply Hk
  iframe Hx2 Hx3 HO HX

/-- The device's own partial products; the next weights' copies begun. -/
theorem part6 (v125 v126 : BitVec 32) {Q : PUnit → sProp 𝕄} :
    iprop(vW m c 0 ∗ aA F c 0 0 ∗ aA F c 0 1 ∗ xO m c 0 0 1 ∗ own c G3 fullShare (w1 m 1 c) ∗ own c G4 fullShare (w2 m 1 c) ∗ uW m c 0
        ∗ semVal ((c : Thread nD τ), .dma (dS 0)) 0 ∗ semVal ((c : Thread nD τ), .dma (dS 1)) 0)
      ⊢ iprop(((vW m c 0 ∗ aH m c 0 0 0 ∗ aH m c 0 0 1 ∗ xO m c 0 0 1 ∗ fly c (dS 0) G3 U1m (w1 m 1 c) ∗ fly c (dS 1) G4 U2m (w2 m 1 c)) -∗ Q ⟨⟩)
        -∗ WP c (k0_part6 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v125 v126 (xv m 0 c (kq 0 0 c))) Q) := by
  simp only [k0_part6_eq_skeleton]; unfold k0_part6_skel
  simp only [Prog.lift, Prog.bind_op, Prog.bind_ret, Prog.pure_eq_ret]
  iintro ⟨⟨HV1, HV2⟩, HA0, HA1, HX, HG3, HG4, ⟨HU1, HU2⟩, Hd0, Hd1⟩ Hk
  iapply (load_w c V1m z2 fullShare (trW1 (w1 m 0 c))) $$ [$HV1]; iintro HV1
  iapply (load_w c V2m z2 fullShare (trW2 (w2 m 0 c))) $$ [$HV2]; iintro HV2
  iapply (upd_q c Am _ (off6_0_eq c) (off6_0_eq c) (w' := hid m 0 c (kq 0 0 c)) (pay8_eq (xv m 0 c (kq 0 0 c)) (trW1 (w1 m 0 c)) (trW2 (w2 m 0 c)))) $$ [$HA0]; iintro HA0
  iapply (load_q c Xm _ (off7_0_eq c) fullShare _) $$ [$HX]; iintro HX
  iapply (load_w c V1m z2 fullShare (trW1 (w1 m 0 c))) $$ [$HV1]; iintro HV1
  iapply (load_w c V2m z2 fullShare (trW2 (w2 m 0 c))) $$ [$HV2]; iintro HV2
  iapply (upd_q c Am _ (off7_0_eq c) (off7_0_eq c) (w' := hid m 0 c (kq 0 1 c)) (pay9_eq (xv m 0 c (kq 0 1 c)) (trW1 (w1 m 0 c)) (trW2 (w2 m 0 c)))) $$ [$HA1]; iintro HA1
  iapply (copy_in' c (dS_eq 0 rfl) (by decide) G3 U1m (w1 m 1 c) (w1 m 0 c)) $$ [$HG3 $HU1 $Hd0]; iintro Hf0
  iapply (copy_in' c (dS_eq 1 rfl) (by decide) G4 U2m (w2 m 1 c) (w2 m 0 c)) $$ [$HG4 $HU2 $Hd1]; iintro Hf1
  iapply (wp_end c)
  iapply Hk
  iframe HV1 HV2 HA0 HA1 HX Hf0 Hf1

/-- The pair's sum of the first quarter. -/
theorem part7 (v3 v125 : BitVec 32) {Q : PUnit → sProp 𝕄} :
    iprop(recs m K ∗ xAir F c 2 ∗ OW F c 4 ∗ aH m c 0 0 0 ∗ xO m c 0 0 0)
      ⊢ iprop(((xDone F c 2 ∗ OW F c 4 ∗ sA F c 0 0 ∗ r1O m c 0 0 0 0 ∗ yA F c 0 0 fullShare ∗ aC m c 0 0 0 ∗ xS m c 0 0 0) -∗ Q ⟨⟩)
        -∗ WP c (k0_part7 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v125) Q) := by
  simp only [k0_part7_eq_skeleton]; unfold k0_part7_skel
  simp only [Prog.lift, Prog.bind_op, Prog.bind_ret, Prog.pure_eq_ret]
  iintro ⟨#HR, Hx, HO, HA, HX⟩ Hk
  iapply (ws_a1 m K c 4 is2) $$ [$HR $Hx $HO]; iintro ⟨Hx, HO, HS⟩
  iapply (wr_a1 m K c 4 ly0 is2 (by decide)) $$ [$HR $Hx $HO]; iintro ⟨Hx, HO, HL, HY⟩
  iapply (load_q c Am _ (off6_0_eq c) fullShare _) $$ [$HA]; iintro HA
  iapply (load_b c R1m 0 0 rfl fullShare _) $$ [$HL]; iintro HL
  iapply (upd_q' c Am _ (off6_0_eq c) (off6_0_eq c) (w' := acc m 0 c (kq 0 0 c)) (pay10_eq (tr (hid m 0 (p1 c) (kq 0 0 c))) (hid m 0 c (kq 0 0 c)))) $$ [$HA]; iintro HA
  iapply (load_q c Am _ (off6_0_eq c) fullShare _) $$ [$HA]; iintro HA
  iapply (upd_q' c Xm _ (off6_0_eq c) (off6_0_eq c) (w' := tr (acc m 0 c (kq 0 0 c))) (pay11_eq (acc m 0 c (kq 0 0 c)))) $$ [$HX]; iintro HX
  iapply (wp_end c)
  iapply Hk
  unfold shr
  iframe Hx HO HS HL HY HA HX

/-- The pair's sum of the first quarter sent; the partner's of the second landed. -/
theorem part8 (v3 v4 v126 : BitVec 32) {Q : Vec F S64x1024 .f32 → sProp 𝕄} :
    iprop(recs m K ∗ xTodo F c 4 ∗ xAir F c 3 ∗ OW F c 4 ∗ xS m c 0 0 0 ∗ r2P F c 0 0 ∗ aH m c 0 0 1)
      ⊢ iprop(((xAir F c 4 ∗ xDone F c 3 ∗ OW F c 5 ∗ sA F c 0 1 ∗ r1O m c 0 0 0 1 ∗ yA F c 0 1 fullShare ∗ aH m c 0 0 1) -∗ Q (hid m 0 c (kq 0 1 c)))
        -∗ WP c (k0_part8 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v4 v126) Q) := by
  simp only [k0_part8_eq_skeleton]; unfold k0_part8_skel
  simp only [Prog.lift, Prog.bind_op, Prog.bind_ret, Prog.pure_eq_ret]
  iintro ⟨#HR, Hx4, Hx3, HO, HX, HR2, HA⟩ Hk
  iapply (send_a2 m K c ly0 is4 (dev7_eq c) (off8_0_eq c)) $$ [$HR $Hx4 $HO $HX $HR2]; iintro ⟨Hx4, HO⟩
  iapply (ws_a1 m K c 5 is3) $$ [$HR $Hx3 $HO]; iintro ⟨Hx3, HO, HS⟩
  iapply (wr_a1 m K c 5 ly0 is3 (by decide)) $$ [$HR $Hx3 $HO]; iintro ⟨Hx3, HO, HL, HY⟩
  iapply (load_q c Am _ (off7_0_eq c) fullShare _) $$ [$HA]; iintro HA
  iapply (wp_end c)
  iapply Hk
  unfold shr
  iframe Hx4 Hx3 HO HS HL HY HA

/-- The pair's sum of the second quarter sent; the next layer's weights landed. -/
theorem part9 (v4 v126 : BitVec 32) {Q : FVec F S1024x2048 .bf16 → sProp 𝕄} :
    iprop(recs m K ∗ xTodo F c 5 ∗ OW F c 5 ∗ r1O m c 0 0 0 1 ∗ aH m c 0 0 1 ∗ xO m c 0 0 1 ∗ r2P F c 0 1
        ∗ fly c (dS 0) G3 U1m (w1 m 1 c) ∗ fly c (dS 1) G4 U2m (w2 m 1 c) ∗ vW m c 0)
      ⊢ iprop(((xAir F c 5 ∗ OW F c 6 ∗ r1O m c 0 0 0 1 ∗ aC m c 0 0 1 ∗ own c G3 fullShare (w1 m 1 c) ∗ own c G4 fullShare (w2 m 1 c) ∗ uW m c 1 ∗ vW m c 0
          ∗ semVal ((c : Thread nD τ), .dma (dS 0)) 0 ∗ semVal ((c : Thread nD τ), .dma (dS 1)) 0) -∗ Q (k0_pay14 (w1 m 1 c)))
        -∗ WP c (k0_part9 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v126 (hid m 0 c (kq 0 1 c))) Q) := by
  simp only [k0_part9_eq_skeleton]; unfold k0_part9_skel
  simp only [Prog.lift, Prog.bind_op, Prog.bind_ret, Prog.pure_eq_ret]
  iintro ⟨#HR, Hx, HO, HL, HA, HX, HR2, Hf0, Hf1, ⟨HV1, HV2⟩⟩ Hk
  iapply (load_b c R1m 0 1 rfl fullShare _) $$ [$HL]; iintro HL
  iapply (upd_q' c Am _ (off7_0_eq c) (off7_0_eq c) (w' := acc m 0 c (kq 0 1 c)) (pay12_eq (tr (hid m 0 (p1 c) (kq 0 1 c))) (hid m 0 c (kq 0 1 c)))) $$ [$HA]; iintro HA
  iapply (load_q c Am _ (off7_0_eq c) fullShare _) $$ [$HA]; iintro HA
  iapply (upd_q' c Xm _ (off7_0_eq c) (off7_0_eq c) (w' := tr (acc m 0 c (kq 0 1 c))) (pay13_eq (acc m 0 c (kq 0 1 c)))) $$ [$HX]; iintro HX
  iapply (send_a2 m K c ly0 is5 (dev8_eq c) (off9_0_eq c)) $$ [$HR $Hx $HO $HX $HR2]; iintro ⟨Hx, HO⟩
  iapply (copy_wait m K c (dS_eq 0 rfl) (lv_dS 0 c) (src := G3) (dst := U1m) (w1 m 1 c) 6) $$ [$HR $Hf0 $HO]; iintro ⟨HG1, HU1, Hd0, HO⟩
  iapply (copy_wait m K c (dS_eq 1 rfl) (lv_dS 1 c) (src := G4) (dst := U2m) (w2 m 1 c) 6) $$ [$HR $Hf1 $HO]; iintro ⟨HG2, HU2, Hd1, HO⟩
  iapply (load_w c U1m z2 fullShare (w1 m 1 c)) $$ [$HU1]; iintro HU1
  iapply (load_w c V1m z2 fullShare (trW1 (w1 m 0 c))) $$ [$HV1]; iintro HV1
  iapply (wp_end c)
  iapply Hk
  iframe Hx HO HL HA HG1 HG2 HU1 HU2 HV1 HV2 Hd0 Hd1

/-- The next layer's weights rounded; the next rows of the first quarter. -/
theorem part10 (v4 v125 : BitVec 32) {Q : PUnit → sProp 𝕄} :
    iprop(recs m K ∗ xAir F c 4 ∗ OW F c 6 ∗ vW m c 0 ∗ uW m c 1 ∗ aC m c 0 0 0)
      ⊢ iprop(((xDone F c 4 ∗ OW F c 6 ∗ vW m c 1 ∗ uW m c 1 ∗ aC m c 0 0 0 ∗ r2O m c 0 0 0 0 ∗ xO m c 1 0 0) -∗ Q ⟨⟩)
        -∗ WP c (k0_part10 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v125 (k0_pay14 (w1 m 1 c))) Q) := by
  simp only [k0_part10_eq_skeleton]; unfold k0_part10_skel
  simp only [Prog.lift, Prog.bind_op, Prog.bind_ret, Prog.pure_eq_ret]
  iintro ⟨#HR, Hx, HO, ⟨HV1, HV2⟩, ⟨HU1, HU2⟩, HA⟩ Hk
  ihave HV1 := (own_any c _ _ _) $$ HV1
  iapply (put_w c V1m z2 (w' := trW1 (w1 m 1 c)) (pay14_eq (w1 m 1 c))) $$ [$HV1]; iintro HV1
  iapply (load_w c U2m z2 fullShare (w2 m 1 c)) $$ [$HU2]; iintro HU2
  iapply (upd_w' c V2m z2 (w' := trW2 (w2 m 1 c)) (pay15_eq (w2 m 1 c))) $$ [$HV2]; iintro HV2
  iapply (ws_a2 m K c 6 ly0 is4) $$ [$HR $Hx $HO]; iintro ⟨Hx, HO, HX⟩
  iapply (wr_a2 m K c 6 ly0 is4 (by decide)) $$ [$HR $Hx $HO]; iintro ⟨Hx, HO, HL⟩
  iapply (load_q c Am _ (off6_0_eq c) fullShare _) $$ [$HA]; iintro HA
  iapply (load_b c R2m 0 0 rfl fullShare _) $$ [$HL]; iintro HL
  iapply (upd_q c Xm _ (off6_0_eq c) (off6_0_eq c) (w' := xv m 1 c (kq 0 0 c))
    ((pay16_eq (tr (acc m 0 (p2 c) (kq 0 0 c))) (acc m 0 c (kq 0 0 c))).trans (xv_next m c ly0 0))) $$ [$HX]; iintro HX
  iapply (wp_end c)
  iapply Hk
  iframe Hx HO HV1 HV2 HU1 HU2 HA HL HX

/-! ## The second layer -/

/-- The next rows of the first quarter sent. -/
theorem part11 (v3 v4 v126 : BitVec 32) {Q : FVec F S64x1024 .bf16 → sProp 𝕄} :
    iprop(recs m K ∗ xTodo F c 6 ∗ xAir F c 5 ∗ OW F c 6 ∗ xO m c 1 0 0 ∗ yA F c 0 0 fullShare ∗ aC m c 0 0 1)
      ⊢ iprop(((xAir F c 6 ∗ xDone F c 5 ∗ OW F c 7 ∗ xL m c 1 0 0 ∗ aC m c 0 0 1 ∗ xA F c 0 1 ∗ r2O m c 0 0 0 1)
          -∗ Q (k0_pay17 (acc m 0 c (kq 0 1 c)) (unsq (β := Elt F) (e := .bf16) (tr (acc m 0 (p2 c) (kq 0 1 c))))))
        -∗ WP c (k0_part11 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v4 v126) Q) := by
  simp only [k0_part11_eq_skeleton]; unfold k0_part11_skel
  simp only [Prog.lift, Prog.bind_op, Prog.bind_ret, Prog.pure_eq_ret]
  iintro ⟨#HR, Hx6, Hx5, HO, HX, HY, HA⟩ Hk
  iapply (send_a3 m K c ly0 (by decide) is6 (dev9_eq c) (off8_0_eq c)) $$ [$HR $Hx6 $HO $HX $HY]; iintro ⟨Hx6, HO, HX⟩
  iapply (ws_a2 m K c 7 ly0 is5) $$ [$HR $Hx5 $HO]; iintro ⟨Hx5, HO, HX1⟩
  iapply (wr_a2 m K c 7 ly0 is5 (by decide)) $$ [$HR $Hx5 $HO]; iintro ⟨Hx5, HO, HL⟩
  iapply (load_q c Am _ (off7_0_eq c) fullShare _) $$ [$HA]; iintro HA
  iapply (load_b c R2m 0 1 rfl fullShare _) $$ [$HL]; iintro HL
  iapply (wp_end c)
  iapply Hk
  iframe Hx6 Hx5 HO HX HA HX1 HL

/-- The next rows of the second quarter sent; the second layer's first partial product for the partner. -/
theorem part12 (v3 v125 : BitVec 32) {Q : FVec F S64x2048 .bf16 → sProp 𝕄} :
    iprop(recs m K ∗ xTodo F c 7 ∗ OW F c 7 ∗ xL m c 1 0 0 ∗ xA F c 0 1 ∗ yA F c 0 1 fullShare ∗ vW m c 1 ∗ sA F c 1 0)
      ⊢ iprop(((xAir F c 7 ∗ OW F c 8 ∗ xL m c 1 0 0 ∗ xL m c 1 0 1 ∗ vW m c 1 ∗ sO m c 1 1 0 0)
          -∗ Q (k0_pay20 (xv m 1 c (kq 0 1 c)) (trW1 (w1 m 1 c))))
        -∗ WP c (k0_part12 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v125
            (k0_pay17 (acc m 0 c (kq 0 1 c)) (unsq (β := Elt F) (e := .bf16) (tr (acc m 0 (p2 c) (kq 0 1 c)))))) Q) := by
  simp only [k0_part12_eq_skeleton]; unfold k0_part12_skel
  simp only [Prog.lift, Prog.bind_op, Prog.bind_ret, Prog.pure_eq_ret]
  iintro ⟨#HR, Hx, HO, HX0, HX1, HY, ⟨HV1, HV2⟩, HS⟩ Hk
  iapply (upd_q c Xm _ (off7_0_eq c) (off7_0_eq c) (w' := xv m 1 c (kq 0 1 c))
    ((pay18_eq (tr (acc m 0 (p2 c) (kq 0 1 c))) (acc m 0 c (kq 0 1 c))).trans (xv_next m c ly0 1))) $$ [$HX1]; iintro HX1
  iapply (send_a3 m K c ly0 (by decide) is7 (dev10_eq c) (off9_0_eq c)) $$ [$HR $Hx $HO $HX1 $HY]; iintro ⟨Hx, HO, HX1⟩
  iapply (load_q c Xm _ (off6_0_eq c) fullShare.left _) $$ [$HX0]; iintro HX0
  iapply (load_w c V1m z2 fullShare (trW1 (w1 m 1 c))) $$ [$HV1]; iintro HV1
  iapply (load_w c V2m z2 fullShare (trW2 (w2 m 1 c))) $$ [$HV2]; iintro HV2
  iapply (upd_b c S1m 1 0 rfl (w' := tr (hid m 1 c (kq 0 0 c))) (pay19_eq (xv m 1 c (kq 0 0 c)) (trW1 (w1 m 1 c)) (trW2 (w2 m 1 c)))) $$ [$HS]; iintro HS
  iapply (load_q c Xm _ (off7_0_eq c) fullShare.left _) $$ [$HX1]; iintro HX1
  iapply (load_w c V1m z2 fullShare (trW1 (w1 m 1 c))) $$ [$HV1]; iintro HV1
  iapply (wp_end c)
  iapply Hk
  iframe Hx HO HX0 HX1 HV1 HV2 HS

/-- The second partial product for the partner; the first sent. -/
theorem part13 (v3 v8 : BitVec 32) {Q : (Σ' (_ : BitVec 32), BitVec 32) → sProp 𝕄} :
    iprop(recs m K ∗ xTodo F c 8 ∗ OW F c 8 ∗ vW m c 1 ∗ sA F c 1 1 ∗ sO m c 1 1 0 0 ∗ r1P F c 1 0 ∗ xL m c 1 0 0)
      ⊢ iprop((∀ v362 v363, (xAir F c 8 ∗ OW F c 9 ∗ vW m c 1 ∗ sO m c 1 1 0 1) -∗ Q ⟨v362, v363⟩)
        -∗ WP c (k0_part13 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v8 (k0_pay20 (xv m 1 c (kq 0 1 c)) (trW1 (w1 m 1 c)))) Q) := by
  simp only [k0_part13_eq_skeleton]; unfold k0_part13_skel
  simp only [Prog.lift, Prog.bind_op, Prog.bind_ret, Prog.pure_eq_ret]
  iintro ⟨#HR, Hx, HO, ⟨HV1, HV2⟩, HS1, HS0, HP, HX⟩ Hk
  ihave HX := (own_any c _ _ _) $$ HX
  iapply (load_w c V2m z2 fullShare (trW2 (w2 m 1 c))) $$ [$HV2]; iintro HV2
  iapply (upd_b c S1m 1 1 rfl (w' := tr (hid m 1 c (kq 0 1 c))) (pay21_eq (xv m 1 c (kq 0 1 c)) (trW1 (w1 m 1 c)) (trW2 (w2 m 1 c)))) $$ [$HS1]; iintro HS1
  iapply (send_a1 m K c ly1 is8 (dev11_eq c)) $$ [$HR $Hx $HO $HS0 $HP $HX]; iintro ⟨Hx, HO⟩
  iapply (wp_end c)
  iapply Hk
  iframe Hx HO HV1 HV2 HS1

/-- The second sent; the partner's rows of the other half landed. -/
theorem part14 (v3 v362 : BitVec 32) {Q : (Σ' (_ : FVec F S64x2048 .f32), F .f32) → sProp 𝕄} :
    iprop(recs m K ∗ xTodo F c 9 ∗ xAir F c 6 ∗ xAir F c 7 ∗ OW F c 9 ∗ vW m c 1 ∗ sO m c 1 1 0 1 ∗ r1P F c 1 1 ∗ xL m c 1 0 1)
      ⊢ iprop(((xAir F c 9 ∗ xDone F c 6 ∗ xDone F c 7 ∗ OW F c 10 ∗ vW m c 1 ∗ xO m c 1 1 0 ∗ xO m c 1 1 1
            ∗ yA F c 1 0 fullShare.right ∗ yA F c 1 1 fullShare.right)
          -∗ Q ⟨k0_pay22 (xv m 1 c (kq 1 0 c)) (trW1 (w1 m 1 c)), Scalar.ofBits .f32 0x00000000#32⟩)
        -∗ WP c (k0_part14 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v362) Q) := by
  simp only [k0_part14_eq_skeleton]; unfold k0_part14_skel
  simp only [Prog.lift, Prog.bind_op, Prog.bind_ret, Prog.pure_eq_ret]
  iintro ⟨#HR, Hx9, Hx6, Hx7, HO, ⟨HV1, HV2⟩, HS, HP, HX⟩ Hk
  ihave HX := (own_any c _ _ _) $$ HX
  iapply (send_a1 m K c ly1 is9 (dev12_eq c)) $$ [$HR $Hx9 $HO $HS $HP $HX]; iintro ⟨Hx9, HO⟩
  iapply (ws_a3 m K c 10 (by decide) is6) $$ [$HR $Hx6 $HO]; iintro ⟨Hx6, HO⟩
  iapply (wr_a3 m K c 10 ly0 (by decide) is6 (by decide)) $$ [$HR $Hx6 $HO]; iintro ⟨Hx6, HO, HX0, HY0⟩
  iapply (ws_a3 m K c 10 (by decide) is7) $$ [$HR $Hx7 $HO]; iintro ⟨Hx7, HO⟩
  iapply (wr_a3 m K c 10 ly0 (by decide) is7 (by decide)) $$ [$HR $Hx7 $HO]; iintro ⟨Hx7, HO, HX1, HY1⟩
  iapply (load_q c Xm _ (off6_1_eq c) fullShare _) $$ [$HX0]; iintro HX0
  iapply (load_w c V1m z2 fullShare (trW1 (w1 m 1 c))) $$ [$HV1]; iintro HV1
  iapply (wp_end c)
  iapply Hk
  iframe Hx9 Hx6 Hx7 HO HV1 HV2 HX0 HX1 HY0 HY1

/-- The device's own partial products; the last weights' copies begun. -/
theorem part15 (v362 v363 : BitVec 32) {Q : PUnit → sProp 𝕄} :
    iprop(vW m c 1 ∗ aA F c 1 0 ∗ aA F c 1 1 ∗ xO m c 1 1 1 ∗ own c G5 fullShare (w1 m 2 c) ∗ own c G6 fullShare (w2 m 2 c) ∗ uW m c 1
        ∗ semVal ((c : Thread nD τ), .dma (dS 0)) 0 ∗ semVal ((c : Thread nD τ), .dma (dS 1)) 0)
      ⊢ iprop(((vW m c 1 ∗ aH m c 1 1 0 ∗ aH m c 1 1 1 ∗ xO m c 1 1 1 ∗ fly c (dS 0) G5 U1m (w1 m 2 c) ∗ fly c (dS 1) G6 U2m (w2 m 2 c)) -∗ Q ⟨⟩)
        -∗ WP c (k0_part15 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v362 v363 (k0_pay22 (xv m 1 c (kq 1 0 c)) (trW1 (w1 m 1 c))) (Scalar.ofBits .f32 0x00000000#32)) Q) := by
  simp only [k0_part15_eq_skeleton]; unfold k0_part15_skel
  simp only [Prog.lift, Prog.bind_op, Prog.bind_ret, Prog.pure_eq_ret]
  iintro ⟨⟨HV1, HV2⟩, HA0, HA1, HX, HG3, HG4, ⟨HU1, HU2⟩, Hd0, Hd1⟩ Hk
  iapply (load_w c V2m z2 fullShare (trW2 (w2 m 1 c))) $$ [$HV2]; iintro HV2
  iapply (upd_q c Am _ (off6_1_eq c) (off6_1_eq c) (w' := hid m 1 c (kq 1 0 c)) (pay23_eq (xv m 1 c (kq 1 0 c)) (trW1 (w1 m 1 c)) (trW2 (w2 m 1 c)))) $$ [$HA0]; iintro HA0
  iapply (load_q c Xm _ (off7_1_eq c) fullShare _) $$ [$HX]; iintro HX
  iapply (load_w c V1m z2 fullShare (trW1 (w1 m 1 c))) $$ [$HV1]; iintro HV1
  iapply (load_w c V2m z2 fullShare (trW2 (w2 m 1 c))) $$ [$HV2]; iintro HV2
  iapply (upd_q c Am _ (off7_1_eq c) (off7_1_eq c) (w' := hid m 1 c (kq 1 1 c)) (pay24_eq (xv m 1 c (kq 1 1 c)) (trW1 (w1 m 1 c)) (trW2 (w2 m 1 c)))) $$ [$HA1]; iintro HA1
  iapply (copy_in' c (dS_eq 0 rfl) (by decide) G5 U1m (w1 m 2 c) (w1 m 1 c)) $$ [$HG3 $HU1 $Hd0]; iintro Hf0
  iapply (copy_in' c (dS_eq 1 rfl) (by decide) G6 U2m (w2 m 2 c) (w2 m 1 c)) $$ [$HG4 $HU2 $Hd1]; iintro Hf1
  iapply (wp_end c)
  iapply Hk
  iframe HV1 HV2 HA0 HA1 HX Hf0 Hf1

end Cert.KernelIdeal.Pf
-- ==== Proof.Parts2.lean ====
/-
The kernel's second half, part by part: the second layer's sums, and the last layer. Each part is run from what it needs
to what it leaves.
-/
module

public import proofs.«01_k».proof.Proof.Parts1

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ) (c : Dev nD)

/-! ## The second layer's sums -/

/-- The pair's sum of the third quarter; the partner's half of the right to its rows comes back. -/
theorem part16 (v3 v4 v362 : BitVec 32) {Q : (Σ' (_ : BitVec 32), BitVec 32) → sProp 𝕄} :
    iprop(recs m K ∗ xAir F c 8 ∗ OW F c 10 ∗ aH m c 1 1 0 ∗ xO m c 1 1 0 ∗ yA F c 1 0 fullShare.right)
      ⊢ iprop((∀ v z, (xDone F c 8 ∗ OW F c 10 ∗ sA F c 1 0 ∗ r1O m c 1 1 1 0 ∗ yA F c 1 0 fullShare ∗ aC m c 1 1 0 ∗ xS m c 1 1 0) -∗ Q ⟨v, z⟩)
        -∗ WP c (k0_part16 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v4 v362) Q) := by
  simp only [k0_part16_eq_skeleton]; unfold k0_part16_skel
  simp only [Prog.lift, Prog.bind_op, Prog.bind_ret, Prog.pure_eq_ret]
  iintro ⟨#HR, Hx, HO, HA, HX, HYr⟩ Hk
  iapply (ws_a1 m K c 10 is8) $$ [$HR $Hx $HO]; iintro ⟨Hx, HO, HS⟩
  iapply (wr_a1 m K c 10 ly1 is8 (by decide)) $$ [$HR $Hx $HO]; iintro ⟨Hx, HO, HL, HYl⟩
  ihave HY := (any_rejoin (F := F) (p1 c) (quar Xm (kq 1 0 c))) $$ [HYl HYr]; · iframe HYl HYr
  iapply (load_q c Am _ (off6_1_eq c) fullShare _) $$ [$HA]; iintro HA
  iapply (load_b c R1m 1 0 rfl fullShare _) $$ [$HL]; iintro HL
  iapply (upd_q' c Am _ (off6_1_eq c) (off6_1_eq c) (w' := acc m 1 c (kq 1 0 c)) (pay25_eq (tr (hid m 1 (p1 c) (kq 1 0 c))) (hid m 1 c (kq 1 0 c)))) $$ [$HA]; iintro HA
  iapply (load_q c Am _ (off6_1_eq c) fullShare _) $$ [$HA]; iintro HA
  iapply (upd_q' c Xm _ (off6_1_eq c) (off6_1_eq c) (w' := tr (acc m 1 c (kq 1 0 c))) (pay26_eq (acc m 1 c (kq 1 0 c)))) $$ [$HX]; iintro HX
  iapply (wp_end c)
  iapply Hk
  iframe Hx HO HS HL HY HA HX

/-- It is sent; the partner's partial product of the fourth quarter has landed. -/
theorem part17 (v3 v363 v466 z : BitVec 32) {Q : (Σ' (_ : Vec F S64x1024 .f32), FVec F S64x1024 .bf16) → sProp 𝕄} :
    iprop(recs m K ∗ xTodo F c 10 ∗ xAir F c 9 ∗ OW F c 10 ∗ xS m c 1 1 0 ∗ r2P F c 1 0 ∗ aH m c 1 1 1 ∗ yA F c 1 1 fullShare.right)
      ⊢ iprop(((xAir F c 10 ∗ xDone F c 9 ∗ OW F c 11 ∗ sA F c 1 1 ∗ r1O m c 1 1 1 1 ∗ yA F c 1 1 fullShare ∗ aH m c 1 1 1)
          -∗ Q ⟨hid m 1 c (kq 1 1 c), k0_pay27 (unsq (β := Elt F) (e := .bf16) (tr (hid m 1 (p1 c) (kq 1 1 c))))⟩)
        -∗ WP c (k0_part17 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v363 v466 z) Q) := by
  simp only [k0_part17_eq_skeleton]; unfold k0_part17_skel
  simp only [Prog.lift, Prog.bind_op, Prog.bind_ret, Prog.pure_eq_ret]
  iintro ⟨#HR, Hx10, Hx9, HO, HX, HP, HA, HYr⟩ Hk
  iapply (send_a2 m K c ly1 is10 (dev13_eq c) (off8_1_eq c)) $$ [$HR $Hx10 $HO $HX $HP]; iintro ⟨Hx10, HO⟩
  iapply (ws_a1 m K c 11 is9) $$ [$HR $Hx9 $HO]; iintro ⟨Hx9, HO, HS⟩
  iapply (wr_a1 m K c 11 ly1 is9 (by decide)) $$ [$HR $Hx9 $HO]; iintro ⟨Hx9, HO, HL, HYl⟩
  ihave HY := (any_rejoin (F := F) (p1 c) (quar Xm (kq 1 1 c))) $$ [HYl HYr]; · iframe HYl HYr
  iapply (load_q c Am _ (off7_1_eq c) fullShare _) $$ [$HA]; iintro HA
  iapply (load_b c R1m 1 1 rfl fullShare _) $$ [$HL]; iintro HL
  iapply (wp_end c)
  iapply Hk
  iframe Hx10 Hx9 HO HS HL HY HA

/-- The pair's sum of the fourth quarter sent; the last layer's weights landed. -/
theorem part18 (v4 v363 : BitVec 32) {Q : FVec F S2048x1024 .bf16 → sProp 𝕄} :
    iprop(recs m K ∗ xTodo F c 11 ∗ OW F c 11 ∗ aH m c 1 1 1 ∗ xO m c 1 1 1 ∗ r2P F c 1 1
        ∗ fly c (dS 0) G5 U1m (w1 m 2 c) ∗ fly c (dS 1) G6 U2m (w2 m 2 c) ∗ vW m c 1)
      ⊢ iprop(((xAir F c 11 ∗ OW F c 12 ∗ aC m c 1 1 1 ∗ own c G5 fullShare (w1 m 2 c) ∗ own c G6 fullShare (w2 m 2 c) ∗ uW m c 2
          ∗ own c V1m fullShare (trW1 (w1 m 2 c)) ∗ own c V2m fullShare (trW2 (w2 m 1 c))
          ∗ semVal ((c : Thread nD τ), .dma (dS 0)) 0 ∗ semVal ((c : Thread nD τ), .dma (dS 1)) 0) -∗ Q (k0_pay31 (w2 m 2 c)))
        -∗ WP c (k0_part18 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v363 (hid m 1 c (kq 1 1 c)) (k0_pay27 (unsq (β := Elt F) (e := .bf16) (tr (hid m 1 (p1 c) (kq 1 1 c)))))) Q) := by
  simp only [k0_part18_eq_skeleton]; unfold k0_part18_skel
  simp only [Prog.lift, Prog.bind_op, Prog.bind_ret, Prog.pure_eq_ret]
  iintro ⟨#HR, Hx, HO, HA, HX, HP, Hf0, Hf1, ⟨HV1, HV2⟩⟩ Hk
  iapply (upd_q' c Am _ (off7_1_eq c) (off7_1_eq c) (w' := acc m 1 c (kq 1 1 c)) (pay28_eq (tr (hid m 1 (p1 c) (kq 1 1 c))) (hid m 1 c (kq 1 1 c)))) $$ [$HA]; iintro HA
  iapply (load_q c Am _ (off7_1_eq c) fullShare _) $$ [$HA]; iintro HA
  iapply (upd_q' c Xm _ (off7_1_eq c) (off7_1_eq c) (w' := tr (acc m 1 c (kq 1 1 c))) (pay29_eq (acc m 1 c (kq 1 1 c)))) $$ [$HX]; iintro HX
  iapply (send_a2 m K c ly1 is11 (dev14_eq c) (off9_1_eq c)) $$ [$HR $Hx $HO $HX $HP]; iintro ⟨Hx, HO⟩
  iapply (copy_wait m K c (dS_eq 0 rfl) (lv_dS 0 c) (src := G5) (dst := U1m) (w1 m 2 c) 12) $$ [$HR $Hf0 $HO]; iintro ⟨HG1, HU1, Hd0, HO⟩
  iapply (copy_wait m K c (dS_eq 1 rfl) (lv_dS 1 c) (src := G6) (dst := U2m) (w2 m 2 c) 12) $$ [$HR $Hf1 $HO]; iintro ⟨HG2, HU2, Hd1, HO⟩
  iapply (load_w c U1m z2 fullShare (w1 m 2 c)) $$ [$HU1]; iintro HU1
  iapply (upd_w' c V1m z2 (w' := trW1 (w1 m 2 c)) (pay30_eq (w1 m 2 c))) $$ [$HV1]; iintro HV1
  iapply (load_w c U2m z2 fullShare (w2 m 2 c)) $$ [$HU2]; iintro HU2
  iapply (wp_end c)
  iapply Hk
  iframe Hx HO HA HG1 HG2 HU1 HU2 HV1 HV2 Hd0 Hd1

/-- The last weights rounded; the last layer's rows of the third quarter. -/
theorem part19 (v3 v4 v362 : BitVec 32) {Q : PUnit → sProp 𝕄} :
    iprop(recs m K ∗ xAir F c 10 ∗ OW F c 12 ∗ own c V1m fullShare (trW1 (w1 m 2 c)) ∗ own c V2m fullShare (trW2 (w2 m 1 c)) ∗ aC m c 1 1 0)
      ⊢ iprop(((xDone F c 10 ∗ OW F c 12 ∗ vW m c 2 ∗ aC m c 1 1 0 ∗ r2O m c 1 1 1 0 ∗ xO m c 2 1 0) -∗ Q ⟨⟩)
        -∗ WP c (k0_part19 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v4 v362 (k0_pay31 (w2 m 2 c))) Q) := by
  simp only [k0_part19_eq_skeleton]; unfold k0_part19_skel
  simp only [Prog.lift, Prog.bind_op, Prog.bind_ret, Prog.pure_eq_ret]
  iintro ⟨#HR, Hx, HO, HV1, HV2, HA⟩ Hk
  iapply (upd_w' c V2m z2 (w' := trW2 (w2 m 2 c)) (pay32_eq (w2 m 2 c))) $$ [$HV2]; iintro HV2
  iapply (ws_a2 m K c 12 ly1 is10) $$ [$HR $Hx $HO]; iintro ⟨Hx, HO, HX⟩
  iapply (wr_a2 m K c 12 ly1 is10 (by decide)) $$ [$HR $Hx $HO]; iintro ⟨Hx, HO, HL⟩
  iapply (load_q c Am _ (off6_1_eq c) fullShare _) $$ [$HA]; iintro HA
  iapply (load_b c R2m 1 0 rfl fullShare _) $$ [$HL]; iintro HL
  iapply (upd_q c Xm _ (off6_1_eq c) (off6_1_eq c) (w' := xv m 2 c (kq 1 0 c))
    ((pay33_eq (tr (acc m 1 (p2 c) (kq 1 0 c))) (acc m 1 c (kq 1 0 c))).trans (xv_next m c ly1 0))) $$ [$HX]; iintro HX
  iapply (wp_end c)
  iapply Hk
  iframe Hx HO HV1 HV2 HA HL HX

/-- They are sent; the last layer's rows of the fourth quarter. -/
theorem part20 (v4 v363 : BitVec 32) {Q : PUnit → sProp 𝕄} :
    iprop(recs m K ∗ xTodo F c 12 ∗ xAir F c 11 ∗ OW F c 12 ∗ xO m c 2 1 0 ∗ yA F c 1 0 fullShare ∗ aC m c 1 1 1)
      ⊢ iprop(((xAir F c 12 ∗ xDone F c 11 ∗ OW F c 13 ∗ xL m c 2 1 0 ∗ aC m c 1 1 1 ∗ r2O m c 1 1 1 1 ∗ xO m c 2 1 1) -∗ Q ⟨⟩)
        -∗ WP c (k0_part20 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v363) Q) := by
  simp only [k0_part20_eq_skeleton]; unfold k0_part20_skel
  simp only [Prog.lift, Prog.bind_op, Prog.bind_ret, Prog.pure_eq_ret]
  iintro ⟨#HR, Hx12, Hx11, HO, HX, HY, HA⟩ Hk
  iapply (send_a3 m K c ly1 (by decide) is12 (dev15_eq c) (off8_1_eq c)) $$ [$HR $Hx12 $HO $HX $HY]; iintro ⟨Hx12, HO, HX⟩
  iapply (ws_a2 m K c 13 ly1 is11) $$ [$HR $Hx11 $HO]; iintro ⟨Hx11, HO, HX1⟩
  iapply (wr_a2 m K c 13 ly1 is11 (by decide)) $$ [$HR $Hx11 $HO]; iintro ⟨Hx11, HO, HL⟩
  iapply (load_q c Am _ (off7_1_eq c) fullShare _) $$ [$HA]; iintro HA
  iapply (load_b c R2m 1 1 rfl fullShare _) $$ [$HL]; iintro HL
  iapply (upd_q c Xm _ (off7_1_eq c) (off7_1_eq c) (w' := xv m 2 c (kq 1 1 c))
    ((pay34_eq (tr (acc m 1 (p2 c) (kq 1 1 c))) (acc m 1 c (kq 1 1 c))).trans (xv_next m c ly1 1))) $$ [$HX1]; iintro HX1
  iapply (wp_end c)
  iapply Hk
  iframe Hx12 Hx11 HO HX HA HL HX1

/-! ## The last layer -/

/-- The rows of the fourth quarter sent; the last layer's first partial product for the partner. -/
theorem part21 (v3 v362 : BitVec 32) {Q : FVec F S64x1024 .bf16 → sProp 𝕄} :
    iprop(recs m K ∗ xTodo F c 13 ∗ OW F c 13 ∗ xL m c 2 1 0 ∗ xO m c 2 1 1 ∗ yA F c 1 1 fullShare ∗ vW m c 2 ∗ sA F c 2 0)
      ⊢ iprop(((xAir F c 13 ∗ OW F c 14 ∗ xL m c 2 1 0 ∗ xL m c 2 1 1 ∗ vW m c 2 ∗ sO m c 2 2 1 0)
          -∗ Q (k0_pay36 (xv m 2 c (kq 1 1 c)) (trW1 (w1 m 2 c)) (trW2 (w2 m 2 c))))
        -∗ WP c (k0_part21 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v362) Q) := by
  simp only [k0_part21_eq_skeleton]; unfold k0_part21_skel
  simp only [Prog.lift, Prog.bind_op, Prog.bind_ret, Prog.pure_eq_ret]
  iintro ⟨#HR, Hx, HO, HX0, HX1, HY, ⟨HV1, HV2⟩, HS⟩ Hk
  iapply (send_a3 m K c ly1 (by decide) is13 (dev16_eq c) (off9_1_eq c)) $$ [$HR $Hx $HO $HX1 $HY]; iintro ⟨Hx, HO, HX1⟩
  iapply (load_q c Xm _ (off6_1_eq c) fullShare.left _) $$ [$HX0]; iintro HX0
  iapply (load_w c V1m z2 fullShare (trW1 (w1 m 2 c))) $$ [$HV1]; iintro HV1
  iapply (load_w c V2m z2 fullShare (trW2 (w2 m 2 c))) $$ [$HV2]; iintro HV2
  iapply (upd_b c S1m 2 0 rfl (w' := tr (hid m 2 c (kq 1 0 c))) (pay35_eq (xv m 2 c (kq 1 0 c)) (trW1 (w1 m 2 c)) (trW2 (w2 m 2 c)))) $$ [$HS]; iintro HS
  iapply (load_q c Xm _ (off7_1_eq c) fullShare.left _) $$ [$HX1]; iintro HX1
  iapply (load_w c V1m z2 fullShare (trW1 (w1 m 2 c))) $$ [$HV1]; iintro HV1
  iapply (load_w c V2m z2 fullShare (trW2 (w2 m 2 c))) $$ [$HV2]; iintro HV2
  iapply (wp_end c)
  iapply Hk
  iframe Hx HO HX0 HX1 HV1 HV2 HS

/-- Both partial products for the partner sent. -/
theorem part22 (v3 v8 : BitVec 32) {Q : (Σ' (_ : BitVec 32) (_ : BitVec 32), BitVec 32) → sProp 𝕄} :
    iprop(recs m K ∗ xTodo F c 14 ∗ xTodo F c 15 ∗ OW F c 14 ∗ sO m c 2 2 1 0 ∗ sA F c 2 1 ∗ r1P F c 2 0 ∗ r1P F c 2 1
        ∗ xL m c 2 1 0 ∗ xL m c 2 1 1)
      ⊢ iprop((∀ a b d, (xAir F c 14 ∗ xAir F c 15 ∗ OW F c 16) -∗ Q ⟨a, b, d⟩)
        -∗ WP c (k0_part22 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v8 (k0_pay36 (xv m 2 c (kq 1 1 c)) (trW1 (w1 m 2 c)) (trW2 (w2 m 2 c)))) Q) := by
  simp only [k0_part22_eq_skeleton]; unfold k0_part22_skel
  simp only [Prog.lift, Prog.bind_op, Prog.bind_ret, Prog.pure_eq_ret]
  iintro ⟨#HR, Hx2, Hx3, HO, HS0, HS1, HR0, HR1, HX0, HX1⟩ Hk
  ihave HX0 := (own_any c _ _ _) $$ HX0
  ihave HX1 := (own_any c _ _ _) $$ HX1
  iapply (upd_b c S1m 2 1 rfl (w' := tr (hid m 2 c (kq 1 1 c))) (pay37_eq (xv m 2 c (kq 1 1 c)) (trW1 (w1 m 2 c)) (trW2 (w2 m 2 c)))) $$ [$HS1]; iintro HS1
  iapply (send_a1 m K c ly2 is14 (dev17_eq c)) $$ [$HR $Hx2 $HO $HS0 $HR0 $HX0]; iintro ⟨Hx2, HO⟩
  iapply (send_a1 m K c ly2 is15 (dev18_eq c)) $$ [$HR $Hx3 $HO $HS1 $HR1 $HX1]; iintro ⟨Hx3, HO⟩
  iapply (wp_end c)
  iapply Hk
  iframe Hx2 Hx3 HO

/-- The partner's rows of the other half landed. -/
theorem part23 (v3 v619 : BitVec 32) {Q : (Σ' (_ : FVec F S64x2048 .bf16), Vec F S2048x1024 .bf16) → sProp 𝕄} :
    iprop(recs m K ∗ xAir F c 12 ∗ xAir F c 13 ∗ OW F c 16 ∗ vW m c 2)
      ⊢ iprop(((xDone F c 12 ∗ xDone F c 13 ∗ OW F c 16 ∗ vW m c 2 ∗ xO m c 2 0 0 ∗ xO m c 2 0 1
            ∗ yA F c 0 0 fullShare.right ∗ yA F c 0 1 fullShare.right)
          -∗ Q ⟨k0_pay38 (xv m 2 c (kq 0 0 c)) (trW1 (w1 m 2 c)), trW2 (w2 m 2 c)⟩)
        -∗ WP c (k0_part23 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v619) Q) := by
  simp only [k0_part23_eq_skeleton]; unfold k0_part23_skel
  simp only [Prog.lift, Prog.bind_op, Prog.bind_ret, Prog.pure_eq_ret]
  iintro ⟨#HR, Hx6, Hx7, HO, ⟨HV1, HV2⟩⟩ Hk
  iapply (ws_a3 m K c 16 (by decide) is12) $$ [$HR $Hx6 $HO]; iintro ⟨Hx6, HO⟩
  iapply (wr_a3 m K c 16 ly1 (by decide) is12 (by decide)) $$ [$HR $Hx6 $HO]; iintro ⟨Hx6, HO, HX0, HY0⟩
  iapply (ws_a3 m K c 16 (by decide) is13) $$ [$HR $Hx7 $HO]; iintro ⟨Hx7, HO⟩
  iapply (wr_a3 m K c 16 ly1 (by decide) is13 (by decide)) $$ [$HR $Hx7 $HO]; iintro ⟨Hx7, HO, HX1, HY1⟩
  iapply (load_q c Xm _ (off6_0_eq c) fullShare _) $$ [$HX0]; iintro HX0
  iapply (load_w c V1m z2 fullShare (trW1 (w1 m 2 c))) $$ [$HV1]; iintro HV1
  iapply (load_w c V2m z2 fullShare (trW2 (w2 m 2 c))) $$ [$HV2]; iintro HV2
  iapply (wp_end c)
  iapply Hk
  iframe Hx6 Hx7 HO HV1 HV2 HX0 HX1 HY0 HY1

/-- The device's own partial products. -/
theorem part24 (v3 v619 v620 : BitVec 32) {Q : (Σ' (_ : BitVec 32), BitVec 32) → sProp 𝕄} :
    iprop(recs m K ∗ xAir F c 14 ∗ OW F c 16 ∗ vW m c 2 ∗ aA F c 0 0 ∗ aA F c 0 1 ∗ xO m c 2 0 1)
      ⊢ iprop((∀ v z, (xBack F c 14 ∗ OW F c 16 ∗ sA F c 2 0 ∗ vW m c 2 ∗ aH m c 2 0 0 ∗ aH m c 2 0 1 ∗ xO m c 2 0 1) -∗ Q ⟨v, z⟩)
        -∗ WP c (k0_part24 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v619 v620 (k0_pay38 (xv m 2 c (kq 0 0 c)) (trW1 (w1 m 2 c))) (trW2 (w2 m 2 c))) Q) := by
  simp only [k0_part24_eq_skeleton]; unfold k0_part24_skel
  simp only [Prog.lift, Prog.bind_op, Prog.bind_ret, Prog.pure_eq_ret]
  iintro ⟨#HR, Hx, HO, ⟨HV1, HV2⟩, HA0, HA1, HX⟩ Hk
  iapply (upd_q c Am _ (off6_0_eq c) (off6_0_eq c) (w' := hid m 2 c (kq 0 0 c)) (pay39_eq (xv m 2 c (kq 0 0 c)) (trW1 (w1 m 2 c)) (trW2 (w2 m 2 c)))) $$ [$HA0]; iintro HA0
  iapply (load_q c Xm _ (off7_0_eq c) fullShare _) $$ [$HX]; iintro HX
  iapply (load_w c V1m z2 fullShare (trW1 (w1 m 2 c))) $$ [$HV1]; iintro HV1
  iapply (load_w c V2m z2 fullShare (trW2 (w2 m 2 c))) $$ [$HV2]; iintro HV2
  iapply (upd_q c Am _ (off7_0_eq c) (off7_0_eq c) (w' := hid m 2 c (kq 0 1 c)) (pay40_eq (xv m 2 c (kq 0 1 c)) (trW1 (w1 m 2 c)) (trW2 (w2 m 2 c)))) $$ [$HA1]; iintro HA1
  iapply (ws_a1 m K c 16 is14) $$ [$HR $Hx $HO]; iintro ⟨Hx, HO, HS⟩
  iapply (wp_end c)
  iapply Hk
  iframe Hx HO HS HV1 HV2 HA0 HA1 HX

/-- The pair's sum of the first quarter, sent. -/
theorem part25 (v4 v619 v694 z : BitVec 32) {Q : PUnit → sProp 𝕄} :
    iprop(recs m K ∗ xBack F c 14 ∗ xTodo F c 16 ∗ OW F c 16 ∗ aH m c 2 0 0 ∗ xO m c 2 0 0 ∗ yA F c 0 0 fullShare.right ∗ r2P F c 2 0)
      ⊢ iprop(((xDone F c 14 ∗ xAir F c 16 ∗ OW F c 17 ∗ r1O m c 2 2 0 0 ∗ yA F c 0 0 fullShare ∗ aC m c 2 0 0) -∗ Q ⟨⟩)
        -∗ WP c (k0_part25 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v619 v694 z) Q) := by
  simp only [k0_part25_eq_skeleton]; unfold k0_part25_skel
  simp only [Prog.lift, Prog.bind_op, Prog.bind_ret, Prog.pure_eq_ret]
  iintro ⟨#HR, Hx, Hx16, HO, HA, HX, HYr, HP⟩ Hk
  iapply (wr_a1 m K c 16 ly2 is14 (by decide)) $$ [$HR $Hx $HO]; iintro ⟨Hx, HO, HL, HYl⟩
  ihave HY := (any_rejoin (F := F) (p1 c) (quar Xm (kq 0 0 c))) $$ [HYl HYr]; · iframe HYl HYr
  iapply (load_q c Am _ (off6_0_eq c) fullShare _) $$ [$HA]; iintro HA
  iapply (load_b c R1m 2 0 rfl fullShare _) $$ [$HL]; iintro HL
  iapply (upd_q' c Am _ (off6_0_eq c) (off6_0_eq c) (w' := acc m 2 c (kq 0 0 c)) (pay41_eq (tr (hid m 2 (p1 c) (kq 0 0 c))) (hid m 2 c (kq 0 0 c)))) $$ [$HA]; iintro HA
  iapply (load_q c Am _ (off6_0_eq c) fullShare _) $$ [$HA]; iintro HA
  iapply (upd_q' c Xm _ (off6_0_eq c) (off6_0_eq c) (w' := tr (acc m 2 c (kq 0 0 c))) (pay42_eq (acc m 2 c (kq 0 0 c)))) $$ [$HX]; iintro HX
  iapply (send_a2 m K c ly2 is16 (dev19_eq c) (off8_0_eq c)) $$ [$HR $Hx16 $HO $HX $HP]; iintro ⟨Hx16, HO⟩
  iapply (wp_end c)
  iapply Hk
  iframe Hx Hx16 HO HL HY HA

/-- The pair's sum of the second quarter. -/
theorem part26 (v3 v620 : BitVec 32) {Q : FVec F S64x1024 .bf16 → sProp 𝕄} :
    iprop(recs m K ∗ xAir F c 15 ∗ OW F c 17 ∗ aH m c 2 0 1 ∗ yA F c 0 1 fullShare.right)
      ⊢ iprop(((xDone F c 15 ∗ OW F c 17 ∗ sA F c 2 1 ∗ r1O m c 2 2 0 1 ∗ yA F c 0 1 fullShare ∗ aC m c 2 0 1) -∗ Q (k0_pay44 (acc m 2 c (kq 0 1 c))))
        -∗ WP c (k0_part26 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v620) Q) := by
  simp only [k0_part26_eq_skeleton]; unfold k0_part26_skel
  simp only [Prog.lift, Prog.bind_op, Prog.bind_ret, Prog.pure_eq_ret]
  iintro ⟨#HR, Hx, HO, HA, HYr⟩ Hk
  iapply (ws_a1 m K c 17 is15) $$ [$HR $Hx $HO]; iintro ⟨Hx, HO, HS⟩
  iapply (wr_a1 m K c 17 ly2 is15 (by decide)) $$ [$HR $Hx $HO]; iintro ⟨Hx, HO, HL, HYl⟩
  ihave HY := (any_rejoin (F := F) (p1 c) (quar Xm (kq 0 1 c))) $$ [HYl HYr]; · iframe HYl HYr
  iapply (load_q c Am _ (off7_0_eq c) fullShare _) $$ [$HA]; iintro HA
  iapply (load_b c R1m 2 1 rfl fullShare _) $$ [$HL]; iintro HL
  iapply (upd_q' c Am _ (off7_0_eq c) (off7_0_eq c) (w' := acc m 2 c (kq 0 1 c)) (pay43_eq (tr (hid m 2 (p1 c) (kq 0 1 c))) (hid m 2 c (kq 0 1 c)))) $$ [$HA]; iintro HA
  iapply (load_q c Am _ (off7_0_eq c) fullShare _) $$ [$HA]; iintro HA
  iapply (wp_end c)
  iapply Hk
  iframe Hx HO HS HL HY HA

/-- It is sent; the other pair's sum of the first quarter has landed. -/
theorem part27 (v4 v619 : BitVec 32) {Q : Vec F S64x1024 .f32 → sProp 𝕄} :
    iprop(recs m K ∗ xTodo F c 17 ∗ xAir F c 16 ∗ OW F c 17 ∗ xO m c 2 0 1 ∗ r2P F c 2 1 ∗ aC m c 2 0 0)
      ⊢ iprop(((xAir F c 17 ∗ xDone F c 16 ∗ OW F c 18 ∗ xA F c 0 0 ∗ r2O m c 2 2 0 0 ∗ aC m c 2 0 0) -∗ Q (acc m 2 c (kq 0 0 c)))
        -∗ WP c (k0_part27 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v4 v619 (k0_pay44 (acc m 2 c (kq 0 1 c)))) Q) := by
  simp only [k0_part27_eq_skeleton]; unfold k0_part27_skel
  simp only [Prog.lift, Prog.bind_op, Prog.bind_ret, Prog.pure_eq_ret]
  iintro ⟨#HR, Hx17, Hx16, HO, HX, HP, HA⟩ Hk
  iapply (upd_q' c Xm _ (off7_0_eq c) (off7_0_eq c) (w' := tr (acc m 2 c (kq 0 1 c))) (pay45_eq (acc m 2 c (kq 0 1 c)))) $$ [$HX]; iintro HX
  iapply (send_a2 m K c ly2 is17 (dev20_eq c) (off9_0_eq c)) $$ [$HR $Hx17 $HO $HX $HP]; iintro ⟨Hx17, HO⟩
  iapply (ws_a2 m K c 18 ly2 is16) $$ [$HR $Hx16 $HO]; iintro ⟨Hx16, HO, HX0⟩
  iapply (wr_a2 m K c 18 ly2 is16 (by decide)) $$ [$HR $Hx16 $HO]; iintro ⟨Hx16, HO, HL⟩
  iapply (load_q c Am _ (off6_0_eq c) fullShare _) $$ [$HA]; iintro HA
  iapply (wp_end c)
  iapply Hk
  iframe Hx17 Hx16 HO HX0 HL HA

/-- The result of the first quarter, sent. -/
theorem part28 (v3 v4 v619 : BitVec 32) {Q : PUnit → sProp 𝕄} :
    iprop(recs m K ∗ xTodo F c 18 ∗ xAir F c 17 ∗ OW F c 18 ∗ r2O m c 2 2 0 0 ∗ aC m c 2 0 0 ∗ xA F c 0 0 ∗ yA F c 0 0 fullShare)
      ⊢ iprop(((xAir F c 18 ∗ xBack F c 17 ∗ OW F c 19 ∗ r2O m c 2 2 0 0 ∗ aR m c 2 0 0 ∗ xA F c 0 1) -∗ Q ⟨⟩)
        -∗ WP c (k0_part28 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v4 v619 (acc m 2 c (kq 0 0 c))) Q) := by
  simp only [k0_part28_eq_skeleton]; unfold k0_part28_skel
  simp only [Prog.lift, Prog.bind_op, Prog.bind_ret, Prog.pure_eq_ret]
  iintro ⟨#HR, Hx18, Hx17, HO, HL, HA, HX, HY⟩ Hk
  iapply (load_b c R2m 2 0 rfl fullShare _) $$ [$HL]; iintro HL
  iapply (upd_q' c Am _ (off6_0_eq c) (off6_0_eq c) (w' := res m 2 c (kq 0 0 c)) (pay46_eq (tr (acc m 2 (p2 c) (kq 0 0 c))) (acc m 2 c (kq 0 0 c)))) $$ [$HA]; iintro HA
  iapply (load_q c Am _ (off6_0_eq c) fullShare _) $$ [$HA]; iintro HA
  iapply (upd_q c Xm _ (off6_0_eq c) (off6_0_eq c) (w' := xv m 3 c (kq 0 0 c)) ((pay47_eq (res m 2 c (kq 0 0 c))).trans (xv_next m c ly2 0))) $$ [$HX]; iintro HX
  iapply (send_a3' m K c ly2 rfl is18 (dev21_eq c) (off8_0_eq c)) $$ [$HR $Hx18 $HO $HX $HY]; iintro ⟨Hx18, HO⟩
  iapply (ws_a2 m K c 19 ly2 is17) $$ [$HR $Hx17 $HO]; iintro ⟨Hx17, HO, HX1⟩
  iapply (wp_end c)
  iapply Hk
  iframe Hx18 Hx17 HO HL HA HX1

/-- The result of the second quarter, sent; the half of the output the device keeps. -/
theorem part29 (v3 v619 v620 : BitVec 32) {Q : PUnit → sProp 𝕄} :
    iprop(recs m K ∗ xTodo F c 19 ∗ xBack F c 17 ∗ OW F c 19 ∗ aC m c 2 0 1 ∗ aR m c 2 0 0 ∗ xA F c 0 1 ∗ yA F c 0 1 fullShare
        ∗ any c (half Bo (kh 0 c)) fullShare)
      ⊢ iprop(((xAir F c 19 ∗ xDone F c 17 ∗ OW F c 20 ∗ r2O m c 2 2 0 1 ∗ own c (half Am (kh 0 c)) fullShare (glue2 fun q => res m 2 c (qt (kh 0 c) q))
          ∗ own c (half Bo (kh 0 c)) fullShare (glue2 fun q => res m 2 c (qt (kh 0 c) q))) -∗ Q ⟨⟩)
        -∗ WP c (k0_part29 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11 c v3 v619 v620) Q) := by
  simp only [k0_part29_eq_skeleton]; unfold k0_part29_skel
  simp only [Prog.lift, Prog.bind_op, Prog.bind_ret, Prog.pure_eq_ret]
  iintro ⟨#HR, Hx19, Hx17, HO, HA1, HA0, HX, HY, HB⟩ Hk
  iapply (wr_a2 m K c 19 ly2 is17 (by decide)) $$ [$HR $Hx17 $HO]; iintro ⟨Hx17, HO, HL⟩
  iapply (load_q c Am _ (off7_0_eq c) fullShare _) $$ [$HA1]; iintro HA1
  iapply (load_b c R2m 2 1 rfl fullShare _) $$ [$HL]; iintro HL
  iapply (upd_q' c Am _ (off7_0_eq c) (off7_0_eq c) (w' := res m 2 c (kq 0 1 c)) (pay48_eq (tr (acc m 2 (p2 c) (kq 0 1 c))) (acc m 2 c (kq 0 1 c)))) $$ [$HA1]; iintro HA1
  iapply (load_q c Am _ (off7_0_eq c) fullShare _) $$ [$HA1]; iintro HA1
  iapply (upd_q c Xm _ (off7_0_eq c) (off7_0_eq c) (w' := xv m 3 c (kq 0 1 c)) ((pay49_eq (res m 2 c (kq 0 1 c))).trans (xv_next m c ly2 1))) $$ [$HX]; iintro HX
  iapply (send_a3' m K c ly2 rfl is19 (dev22_eq c) (off9_0_eq c)) $$ [$HR $Hx19 $HO $HX $HY]; iintro ⟨Hx19, HO⟩
  ihave HA := (own_half c fullShare Am (kh 0 c) (fun q => res m 2 c (qt (kh 0 c) q))) $$ [HA0 HA1]; · unfold kq; iframe HA0 HA1
  iapply (load_h c Am (kh 0 c) (off10_eq c) fullShare _) $$ [$HA]; iintro HA
  iapply (load_h_any c Bo (kh 0 c) (off10_eq c) fullShare) $$ [$HB]; iintro %X HB
  iapply (store_h c Bo (kh 0 c) (off10_eq c) _) $$ [$HB]; iintro HB
  iapply (wp_end c)
  iapply Hk
  iframe Hx19 Hx17 HO HL HA HB

end Cert.KernelIdeal.Pf
-- ==== Proof.Body.lean ====
/-
The kernel's body on a device: the parts run one after another, from the buffers and the exchanges' tokens to the
output, with every buffer and every semaphore back.
-/
module

public import proofs.«01_k».proof.Proof.Parts2

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 41 → ℕ) (c : Dev nD)

theorem sep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19) := by
  rw [bigSep_univ_eq_bigSepL [0, 1, 2, 3, 4, 5, 6, 7, 8, 9, 10, 11, 12, 13, 14, 15, 16, 17, 18, 19] (by decide) (by decide)]
  rfl

/-! ## The quarters by owner -/

theorem kq_cases (c : Dev nD) : (kq 0 0 c = 0 ∧ kq 0 1 c = 1 ∧ kq 1 0 c = 2 ∧ kq 1 1 c = 3) ∨ (kq 0 0 c = 2 ∧ kq 0 1 c = 3 ∧ kq 1 0 c = 0 ∧ kq 1 1 c = 1) := by
  revert c; decide
theorem xq_cases (c : Dev nD) : (xq c = 0 ∧ xq (p1 c) = 1 ∧ gh (p2 c) = 1) ∨ (xq c = 1 ∧ xq (p1 c) = 0 ∧ gh (p2 c) = 1)
    ∨ (xq c = 2 ∧ xq (p1 c) = 3 ∧ gh (p2 c) = 0) ∨ (xq c = 3 ∧ xq (p1 c) = 2 ∧ gh (p2 c) = 0) := by
  revert c; decide

theorem any_kq {sp : Space} {e : EltTy} (M : Memref sig .tc sp S256x1024 e) :
    (any (F := F) c M fullShare : sProp 𝕄) ⊢ iprop(any c (quar M (kq 0 0 c)) fullShare ∗ any c (quar M (kq 0 1 c)) fullShare
      ∗ any c (quar M (kq 1 0 c)) fullShare ∗ any c (quar M (kq 1 1 c)) fullShare) := by
  refine (any_quarters c fullShare M).trans ?_
  rcases kq_cases c with ⟨h0, h1, h2, h3⟩ | ⟨h0, h1, h2, h3⟩ <;> rw [h0, h1, h2, h3]
  iintro ⟨H0, H1, H2, H3⟩; iframe H0 H1 H2 H3
theorem any_of_kq {sp : Space} {e : EltTy} (M : Memref sig .tc sp S256x1024 e) :
    iprop(any c (quar M (kq 0 0 c)) fullShare ∗ any c (quar M (kq 0 1 c)) fullShare
      ∗ any c (quar M (kq 1 0 c)) fullShare ∗ any c (quar M (kq 1 1 c)) fullShare) ⊢ (any (F := F) c M fullShare : sProp 𝕄) := by
  refine BIBase.Entails.trans ?_ (any_of_quarters c fullShare M)
  rcases kq_cases c with ⟨h0, h1, h2, h3⟩ | ⟨h0, h1, h2, h3⟩ <;> rw [h0, h1, h2, h3]
  iintro ⟨H0, H1, H2, H3⟩; iframe H0 H1 H2 H3

/-- The row buffer: the device's own quarter, its first partner's, and the half its second partner will write. -/
theorem x_split : (any (F := F) c Xm fullShare : sProp 𝕄) ⊢ iprop(any c (quar Xm (xq c)) fullShare ∗ any c (quar Xm (xq (p1 c))) fullShare
      ∗ any c (half Xm (gh (p2 c))) fullShare) := by
  refine (any_quarters c fullShare Xm).trans ?_
  have hh (h : Fin 2) := any_half (F := F) c fullShare Xm h
  rcases xq_cases c with ⟨h0, h1, h2⟩ | ⟨h0, h1, h2⟩ | ⟨h0, h1, h2⟩ | ⟨h0, h1, h2⟩ <;> rw [h0, h1, h2]
  · iintro ⟨H0, H1, H2, H3⟩; iframe H0 H1; iapply (hh 1); iframe H2 H3
  · iintro ⟨H0, H1, H2, H3⟩; iframe H0 H1; iapply (hh 1); iframe H2 H3
  · iintro ⟨H0, H1, H2, H3⟩; iframe H2 H3; iapply (hh 0); iframe H0 H1
  · iintro ⟨H0, H1, H2, H3⟩; iframe H2 H3; iapply (hh 0); iframe H0 H1

/-- The output buffer: the half the device keeps, and the other. -/
theorem out_split : (any (F := F) c Bo fullShare : sProp 𝕄) ⊢ iprop(any c (half Bo (kh 0 c)) fullShare ∗ any c (half Bo (kh 1 c)) fullShare) := by
  refine (any_halves c fullShare Bo).trans ?_
  rcases kh_cases c with ⟨h0, h1⟩ | ⟨h0, h1⟩ <;> rw [h0, h1]
  exact sep_comm

/-- The two halves of the output. -/
theorem out_join : iprop(own c (half Bo (kh 0 c)) fullShare (glue2 fun q => res m 2 c (qt (kh 0 c) q))
      ∗ own c (half Bo (kh 1 c)) fullShare (extf .f32 (glue2 (fun q => xv m 3 c (qt (kh 1 c) q)) : Vec F S128x1024 .bf16) bitsLt_bf16_f32))
    ⊢ (own c Bo fullShare (finOut m c) : sProp 𝕄) := by
  have hj := own_of_halves (F := F) c fullShare Bo (fun h => if h = kh 0 c then glue2 (fun q => res m 2 c (qt h q))
    else extf .f32 (glue2 (fun q => xv m 3 c (qt h q)) : Vec F S128x1024 .bf16) bitsLt_bf16_f32)
  unfold finOut
  rcases kh_cases c with ⟨h0, h1⟩ | ⟨h0, h1⟩ <;> rw [h0, h1]
  · rw [h0, if_pos rfl, if_neg (by decide)] at hj
    exact hj
  · rw [h0, if_neg (by decide), if_pos rfl] at hj
    exact sep_comm.trans hj

/-- Six landed blocks are the whole of an exchange buffer, at some contents. -/
theorem blocks_any (M : Memref sig .tc .vmem S3x2x64x1024 .bf16) (X0 X1 X2 X3 X4 X5 : S64x1024.Idx → Elt F .bf16) :
    iprop(own c (blk M 0 0) fullShare X0 ∗ own c (blk M 0 1) fullShare X1 ∗ own c (blk M 1 0) fullShare X2 ∗ own c (blk M 1 1) fullShare X3
      ∗ own c (blk M 2 0) fullShare X4 ∗ own c (blk M 2 1) fullShare X5) ⊢ (any c M fullShare : sProp 𝕄) :=
  (BI.sep_mono (own_any c _ _ _) (BI.sep_mono (own_any c _ _ _) (BI.sep_mono (own_any c _ _ _) (BI.sep_mono (own_any c _ _ _)
    (BI.sep_mono (own_any c _ _ _) (own_any c _ _ _)))))).trans (any_of_blocks c fullShare M)

/-- The sums' buffer, at some contents. -/
theorem a_join {X : S128x1024.Idx → Elt F .f32} {Y Z : S64x1024.Idx → Elt F .f32} :
    iprop(own c (half Am (kh 0 c)) fullShare X ∗ own c (quar Am (kq 1 0 c)) fullShare Y ∗ own c (quar Am (kq 1 1 c)) fullShare Z)
      ⊢ (any c Am fullShare : sProp 𝕄) := by
  iintro ⟨H, HY, HZ⟩
  ihave H := (own_unhalf c fullShare Am (kh 0 c) X) $$ H; icases H with ⟨H0, H1⟩
  iapply (any_of_kq c Am)
  ihave H0 := (own_any c _ _ _) $$ H0
  ihave H1 := (own_any c _ _ _) $$ H1
  ihave HY := (own_any c _ _ _) $$ HY
  ihave HZ := (own_any c _ _ _) $$ HZ
  unfold kq
  iframe H0 H1 HY HZ

/-! ## The whole body -/

/-- What the barrier and the transfers need, and what is left of them. -/
def todo : sProp 𝕄 :=
  iprop(dutyTok ER (barCell (p1 c)) 0 false ∗ dutyTok ER (barCell (p2 c)) 0 true ∗ atPos ER (barCell c) 0 ∅ 0 ∗ cred (tallyAt (barCell c) () 2)
    ∗ bigSep Finset.univ (xTodo F c))
def done : sProp 𝕄 := iprop(semVal (barCell c) 0 ∗ bigSep Finset.univ (xDone F c))
/-- The six weight blocks at their launch contents, and the two local semaphores. -/
def weights : sProp 𝕄 :=
  iprop(own c G1 fullShare (w1 m 0 c) ∗ own c G2 fullShare (w2 m 0 c) ∗ own c G3 fullShare (w1 m 1 c) ∗ own c G4 fullShare (w2 m 1 c)
    ∗ own c G5 fullShare (w1 m 2 c) ∗ own c G6 fullShare (w2 m 2 c)
    ∗ semVal ((c : Thread nD τ), .dma (dS 0)) 0 ∗ semVal ((c : Thread nD τ), .dma (dS 1)) 0)
variable (F) in
/-- The nine buffers the body works in. -/
def bufs : sProp 𝕄 :=
  iprop(any (F := F) c Xm fullShare ∗ any (F := F) c Am fullShare ∗ any (F := F) c S1m fullShare ∗ any (F := F) c R1m fullShare ∗ any (F := F) c R2m fullShare
    ∗ any (F := F) c U1m fullShare ∗ any (F := F) c U2m fullShare ∗ any (F := F) c V1m fullShare ∗ any (F := F) c V2m fullShare)

/-- Everything but the last wait and the output's second half. -/
theorem part30 {Q : (Σ' (_ : Dev nD) (_ : BitVec 32), BitVec 32) → sProp 𝕄} :
    iprop(recs m K ∗ todo c ∗ (∃ W, owes (c : Thread nD τ) (O₀ c) W) ∗ own c Bx fullShare (xin m c) ∗ any c (half Bo (kh 0 c)) fullShare ∗ weights m c ∗ bufs F c)
      ⊢ iprop((∀ v3 v618, (semVal (barCell c) 0 ∗ xDone F c 0 ∗ xDone F c 1 ∗ xDone F c 2 ∗ xDone F c 3 ∗ xDone F c 4 ∗ xDone F c 5 ∗ xDone F c 6 ∗ xDone F c 7 ∗ xDone F c 8
            ∗ xDone F c 9 ∗ xDone F c 10 ∗ xDone F c 11 ∗ xDone F c 12 ∗ xDone F c 13 ∗ xDone F c 14 ∗ xDone F c 15 ∗ xDone F c 16 ∗ xDone F c 17 ∗ xDone F c 18
            ∗ xBack F c 19 ∗ OW F c 20 ∗ own c Bx fullShare (xin m c) ∗ own c (half Bo (kh 0 c)) fullShare (glue2 fun q => res m 2 c (qt (kh 0 c) q)) ∗ weights m c
            ∗ xA F c 0 0 ∗ xA F c 0 1 ∗ xO m c 3 1 0
            ∗ any c Am fullShare ∗ any c S1m fullShare ∗ any c R1m fullShare ∗ any c R2m fullShare
            ∗ any c U1m fullShare ∗ any c U2m fullShare ∗ any c V1m fullShare ∗ any c V2m fullShare) -∗ Q ⟨c, v3, v618⟩)
        -∗ WP c (k0_part30 (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11) Q) := by
  simp only [k0_part30_eq_skeleton]; unfold k0_part30_skel
  unfold todo weights bufs
  rw [sep_fin20]
  iintro ⟨#HR, ⟨Ht1, Ht2, Hat, Hc, Hx0, Hx1, Hx2, Hx3, Hx4, Hx5, Hx6, Hx7, Hx8, Hx9, Hx10, Hx11, Hx12, Hx13, Hx14, Hx15, Hx16, Hx17, Hx18, Hx19⟩, HO, HB, HBo,
    ⟨HG1, HG2, HG3, HG4, HG5, HG6, Hd0, Hd1⟩, ⟨HX, HA, HS, HR1, HR2, HU1, HU2, HV1, HV2⟩⟩ Hk
  ihave HX := (x_split c) $$ HX; icases HX with ⟨HX, HX1, HX2⟩
  ihave HA := (any_kq c Am) $$ HA; icases HA with ⟨HA00, HA01, HA10, HA11⟩
  ihave HS := (any_blocks c fullShare S1m) $$ HS; icases HS with ⟨HS00, HS01, HS10, HS11, HS20, HS21⟩
  iapply (wp_seq c); iapply (part1 m K c) $$ [$HR $Ht1 $Ht2 $Hat $Hc $HO $HB $HX $HX1 $HX2 $HR1 $HR2 $HG1 $HG2 $HU1 $HU2 $Hd0 $Hd1]
  iintro %v2 %v3 %v4 %v8 %c1 ⟨HO, Hz, Hb1, Hb2, HB, HX, Hf0, Hf1⟩
  unfold barPay1 barPay2
  icases Hb1 with ⟨HY, HP1⟩
  icases Hb2 with ⟨HY2, HP2⟩
  ihave HP1 := (any_blocks (p1 c) fullShare R1m) $$ HP1; icases HP1 with ⟨HP00, HP01, HP10, HP11, HP20, HP21⟩
  ihave HP2 := (any_blocks (p2 c) fullShare R2m) $$ HP2; icases HP2 with ⟨HQ00, HQ01, HQ10, HQ11, HQ20, HQ21⟩
  iapply (wp_seq c); iapply (part2 m K c) $$ [$HR $Hx0 $HO $HX $HY]
  iintro %v61 %c2 ⟨Hx0, HO, HX, HX1⟩
  iapply (wp_seq c); iapply (part3 m K c) $$ [$HR $Hx1 $HO $HX $HX1 $HY2 $Hf0 $Hf1 $HV1 $HV2]
  iintro ⟨Hx1, HO, HX, HG1, HG2, HU, HV, Hd0, Hd1⟩
  iapply (wp_seq c); iapply (part4 m K c) $$ [$HR $Hx1 $HO $HX $HV $HS00]
  iintro ⟨Hx1, HO, H00, H01, H10, H11, HV, HS00⟩
  iapply (wp_seq c); iapply (part5 m K c) $$ [$HR $Hx2 $Hx3 $HO $HS00 $HS01 $HP00 $HP01 $H10 $H11 $H00]
  iintro %v125 %v126 ⟨Hx2, Hx3, HO, H00⟩
  iapply (wp_seq c); iapply (part6 m c) $$ [$HV $HA00 $HA01 $H01 $HG3 $HG4 $HU $Hd0 $Hd1]
  iintro ⟨HV, HA00, HA01, H01, Hf0, Hf1⟩
  iapply (wp_seq c); iapply (part7 m K c) $$ [$HR $Hx2 $HO $HA00 $H00]
  iintro ⟨Hx2, HO, HS00, HL00, HY00, HA00, H00⟩
  iapply (wp_seq c); iapply (part8 m K c) $$ [$HR $Hx4 $Hx3 $HO $H00 $HQ00 $HA01]
  iintro ⟨Hx4, Hx3, HO, HS01, HL01, HY01, HA01⟩
  iapply (wp_seq c); iapply (part9 m K c) $$ [$HR $Hx5 $HO $HL01 $HA01 $H01 $HQ01 $Hf0 $Hf1 $HV]
  iintro ⟨Hx5, HO, HL01, HA01, HG3, HG4, HU, HV, Hd0, Hd1⟩
  iapply (wp_seq c); iapply (part10 m K c) $$ [$HR $Hx4 $HO $HV $HU $HA00]
  iintro ⟨Hx4, HO, HV, HU, HA00, HM00, H00⟩
  iapply (wp_seq c); iapply (part11 m K c) $$ [$HR $Hx6 $Hx5 $HO $H00 $HY00 $HA01]
  iintro ⟨Hx6, Hx5, HO, H00, HA01, H01, HM01⟩
  iapply (wp_seq c); iapply (part12 m K c) $$ [$HR $Hx7 $HO $H00 $H01 $HY01 $HV $HS10]
  iintro ⟨Hx7, HO, H00, H01, HV, HS10⟩
  iapply (wp_seq c); iapply (part13 m K c) $$ [$HR $Hx8 $HO $HV $HS11 $HS10 $HP10 $H00]
  iintro %v362 %v363 ⟨Hx8, HO, HV, HS11⟩
  iapply (wp_seq c); iapply (part14 m K c) $$ [$HR $Hx9 $Hx6 $Hx7 $HO $HV $HS11 $HP11 $H01]
  iintro ⟨Hx9, Hx6, Hx7, HO, HV, H10, H11, HY10, HY11⟩
  iapply (wp_seq c); iapply (part15 m c) $$ [$HV $HA10 $HA11 $H11 $HG5 $HG6 $HU $Hd0 $Hd1]
  iintro ⟨HV, HA10, HA11, H11, Hf0, Hf1⟩
  iapply (wp_seq c); iapply (part16 m K c) $$ [$HR $Hx8 $HO $HA10 $H10 $HY10]
  iintro %v466 %z1 ⟨Hx8, HO, HS10, HL10, HY10, HA10, H10⟩
  iapply (wp_seq c); iapply (part17 m K c) $$ [$HR $Hx10 $Hx9 $HO $H10 $HQ10 $HA11 $HY11]
  iintro ⟨Hx10, Hx9, HO, HS11, HL11, HY11, HA11⟩
  iapply (wp_seq c); iapply (part18 m K c) $$ [$HR $Hx11 $HO $HA11 $H11 $HQ11 $Hf0 $Hf1 $HV]
  iintro ⟨Hx11, HO, HA11, HG5, HG6, HU, HV1, HV2, Hd0, Hd1⟩
  iapply (wp_seq c); iapply (part19 m K c) $$ [$HR $Hx10 $HO $HV1 $HV2 $HA10]
  iintro ⟨Hx10, HO, HV, HA10, HM10, H10⟩
  iapply (wp_seq c); iapply (part20 m K c) $$ [$HR $Hx12 $Hx11 $HO $H10 $HY10 $HA11]
  iintro ⟨Hx12, Hx11, HO, H10, HA11, HM11, H11⟩
  iapply (wp_seq c); iapply (part21 m K c) $$ [$HR $Hx13 $HO $H10 $H11 $HY11 $HV $HS20]
  iintro ⟨Hx13, HO, H10, H11, HV, HS20⟩
  iapply (wp_seq c); iapply (part22 m K c) $$ [$HR $Hx14 $Hx15 $HO $HS20 $HS21 $HP20 $HP21 $H10 $H11]
  iintro %v618 %v619 %v620 ⟨Hx14, Hx15, HO⟩
  iapply (wp_seq c); iapply (part23 m K c) $$ [$HR $Hx12 $Hx13 $HO $HV]
  iintro ⟨Hx12, Hx13, HO, HV, H00, H01, HY00, HY01⟩
  ihave HA00 := (own_any c _ _ _) $$ HA00
  ihave HA01 := (own_any c _ _ _) $$ HA01
  iapply (wp_seq c); iapply (part24 m K c) $$ [$HR $Hx14 $HO $HV $HA00 $HA01 $H01]
  iintro %v694 %z3 ⟨Hx14, HO, HS20, HV, HA00, HA01, H01⟩
  iapply (wp_seq c); iapply (part25 m K c) $$ [$HR $Hx14 $Hx16 $HO $HA00 $H00 $HY00 $HQ20]
  iintro ⟨Hx14, Hx16, HO, HL20, HY00, HA00⟩
  iapply (wp_seq c); iapply (part26 m K c) $$ [$HR $Hx15 $HO $HA01 $HY01]
  iintro ⟨Hx15, HO, HS21, HL21, HY01, HA01⟩
  iapply (wp_seq c); iapply (part27 m K c) $$ [$HR $Hx17 $Hx16 $HO $H01 $HQ21 $HA00]
  iintro ⟨Hx17, Hx16, HO, H00, HM20, HA00⟩
  iapply (wp_seq c); iapply (part28 m K c) $$ [$HR $Hx18 $Hx17 $HO $HM20 $HA00 $H00 $HY00]
  iintro ⟨Hx18, Hx17, HO, HM20, HA00, H01⟩
  iapply (wp_seq c); iapply (part29 m K c) $$ [$HR $Hx19 $Hx17 $HO $HA01 $HA00 $H01 $HY01 $HBo]
  iintro ⟨Hx19, Hx17, HO, HM21, HAh, HBo⟩
  simp only [Prog.lift, Prog.bind_op, Prog.bind_ret, Prog.pure_eq_ret]
  iapply (ws_a3' m K c 20 ly2 rfl is18) $$ [$HR $Hx18 $HO]; iintro ⟨Hx18, HO, H00⟩
  iapply (wr_a3' m K c 20 ly2 rfl is18 (by decide)) $$ [$HR $Hx18 $HO]; iintro ⟨Hx18, HO, H10⟩
  iapply (ws_a3' m K c 20 ly2 rfl is19) $$ [$HR $Hx19 $HO]; iintro ⟨Hx19, HO, H01⟩
  icases HV with ⟨HV1, HV2⟩
  icases HU with ⟨HU1, HU2⟩
  ihave HA := (a_join c) $$ [HAh HA10 HA11]; · iframe HAh HA10 HA11
  ihave HS := (any_of_blocks c fullShare S1m) $$ [HS00 HS01 HS10 HS11 HS20 HS21]; · iframe HS00 HS01 HS10 HS11 HS20 HS21
  ihave HR1 := (blocks_any c R1m _ _ _ _ _ _) $$ [HL00 HL01 HL10 HL11 HL20 HL21]; · iframe HL00 HL01 HL10 HL11 HL20 HL21
  ihave HR2 := (blocks_any c R2m _ _ _ _ _ _) $$ [HM00 HM01 HM10 HM11 HM20 HM21]; · iframe HM00 HM01 HM10 HM11 HM20 HM21
  ihave HV1 := (own_any c _ _ _) $$ HV1
  ihave HV2 := (own_any c _ _ _) $$ HV2
  ihave HU1 := (own_any c _ _ _) $$ HU1
  ihave HU2 := (own_any c _ _ _) $$ HU2
  iapply (wp_end c)
  iapply Hk
  iframe Hz Hx0 Hx1 Hx2 Hx3 Hx4 Hx5 Hx6 Hx7 Hx8 Hx9 Hx10 Hx11 Hx12 Hx13 Hx14 Hx15 Hx16 Hx17 Hx18 Hx19 HO HB HBo
  iframe HG1 HG2 HG3 HG4 HG5 HG6 Hd0 Hd1 H00 H01 H10 HA HS HR1 HR2 HU1 HU2 HV1 HV2

/-- The whole body: from what it needs to the output and everything back. -/
theorem body {Q : PUnit → sProp 𝕄} :
    iprop(recs m K ∗ todo c ∗ (∃ W, owes (c : Thread nD τ) (O₀ c) W) ∗ own c Bx fullShare (xin m c) ∗ any c Bo fullShare ∗ weights m c ∗ bufs F c)
      ⊢ iprop(((done c ∗ OW F c 20 ∗ own c Bx fullShare (xin m c) ∗ own c Bo fullShare (finOut m c) ∗ weights m c ∗ bufs F c) -∗ Q ⟨⟩)
        -∗ WP c (cc0_body (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11) Q) := by
  simp only [cc0_body_eq_skeleton]; unfold cc0_body_skel
  iintro ⟨#HR, Ht, HO, HB, HBo, HW, Hbufs⟩ Hk
  ihave HBo := (out_split c) $$ HBo; icases HBo with ⟨HB0, HB1⟩
  iapply (wp_seq c); iapply (part30 m K c) $$ [$HR $Ht $HO $HB $HB0 $HW $Hbufs]
  iintro %v3 %v618 ⟨Hz, Hx0, Hx1, Hx2, Hx3, Hx4, Hx5, Hx6, Hx7, Hx8, Hx9, Hx10, Hx11, Hx12, Hx13, Hx14, Hx15, Hx16, Hx17, Hx18, Hx19, HO, HB, HB0, HW,
    H00, H01, H10, HA, HS, HR1, HR2, HU1, HU2, HV1, HV2⟩
  simp only [Prog.lift, Prog.bind_op, Prog.bind_ret, Prog.pure_eq_ret]
  iapply (wr_a3' m K c 20 ly2 rfl is19 (by decide)) $$ [$HR $Hx19 $HO]; iintro ⟨Hx19, HO, H11⟩
  ihave HX := (own_half c fullShare Xm (kh 1 c) (fun q => xv m 3 c (qt (kh 1 c) q))) $$ [H10 H11]; · unfold kq; iframe H10 H11
  iapply (load_h c Xm (kh 1 c) (off11_eq c) fullShare _) $$ [$HX]; iintro HX
  iapply (load_h_any c Bo (kh 1 c) (off11_eq c) fullShare) $$ [$HB1]; iintro %X HB1
  iapply (store_h c Bo (kh 1 c) (off11_eq c) _) $$ [$HB1]; iintro HB1
  ihave HBo := (out_join m c) $$ [HB0 HB1]; · iframe HB0 HB1
  ihave HX := (own_unhalf_glue c fullShare Xm (kh 1 c) (fun q => xv m 3 c (qt (kh 1 c) q))) $$ HX; icases HX with ⟨H10, H11⟩
  ihave H10 := (own_any c _ _ _) $$ H10
  ihave H11 := (own_any c _ _ _) $$ H11
  ihave HX := (any_of_kq c Xm) $$ [H00 H01 H10 H11]; · unfold kq; iframe H00 H01 H10 H11
  iapply (wp_end c)
  iapply Hk
  unfold done bufs
  rw [sep_fin20]
  iframe Hz Hx0 Hx1 Hx2 Hx3 Hx4 Hx5 Hx6 Hx7 Hx8 Hx9 Hx10 Hx11 Hx12 Hx13 Hx14 Hx15 Hx16 Hx17 Hx18 Hx19 HO HB HBo HW HX HA HS HR1 HR2 HU1 HU2 HV1 HV2

end Cert.KernelIdeal.Pf
-- ==== Proof.Run.lean ====
/- The launch: the exchanges' cells are funded and their tokens dealt to the devices that pay them, the pipeline's data are
   given, and the run theorem follows from the body's. -/
module

public import proofs.«01_k».proof.Proof.Body
public import proofs.«01_k».proof.Proof.Gen.KernelIdeal.Points
public import Idealize.ShloMosaic.Lib.Pipeline.ValueKit
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Numbering the cells, the kernel's own semaphores and the tokens -/

/-- A device's cells by kind: the barrier's, the send cells, the receive cells. -/
def ixOf : Unit ⊕ (Fin 20 ⊕ Fin 20) → Fin 41
  | .inl _ => 0
  | .inr (.inl i) => sIx i
  | .inr (.inr i) => rIx i
theorem ixOf_bij : Function.Bijective ixOf := by decide

/-- A conjunction over a device's cells, by kind. -/
theorem sep41 (Φ : Fin 41 → sProp 𝕄) : bigSep Finset.univ Φ
    = iprop(Φ 0 ∗ (bigSep Finset.univ fun i => Φ (sIx i)) ∗ bigSep Finset.univ fun i => Φ (rIx i)) := by
  rw [bigSep_univ_equiv (Equiv.ofBijective ixOf ixOf_bij) Φ, bigSep_univ_sum, bigSep_univ_sum, bigSep_univ_of_subsingleton ()]
  rfl

/-- The kernel's own semaphores: the two of the local copies, the send and the receive ones. -/
def osem : Fin 2 ⊕ (Fin 20 ⊕ Fin 20) → SemLoc sig
  | .inl j => .dma (dS j)
  | .inr (.inl i) => .dma (sS i)
  | .inr (.inr i) => .dma (rS i)
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop((semVal ((c : Thread nD τ), .dma (dS 0)) 0 ∗ semVal ((c : Thread nD τ), .dma (dS 1)) 0)
      ∗ (bigSep Finset.univ fun i => semVal (sCell i c) 0) ∗ bigSep Finset.univ fun i => semVal (rCell i c) 0) := by
  unfold Pipeline.ownSems0
  rw [bigSep_univ_sum, bigSep_univ_sum, sep_fin2]
  rfl
/-- The barrier's semaphore is the one the launch leaves unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem csem_injective : Function.Injective csem := by
  intro k k' h
  unfold csem at h
  have hk := k.isLt; have hk' := k'.isLt
  split at h <;> split at h
  · exact Fin.ext (by omega)
  · cases h
  · cases h
  · have h1 := congrArg Fin.val (SemLoc.dma.inj h)
    exact Fin.ext (by simpa using h1)
theorem kcell_injective : Function.Injective (kcell : Dev nD × Fin 41 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- The duties of a device's own cells. -/
def tokOf (x : Dev nD × (Bool ⊕ (Fin 20 ⊕ Fin 20))) : GSem nD τ sig × ℕ × Bool :=
  match x.2 with
  | .inl b => (barCell x.1, 0, b)
  | .inr (.inl i) => (sCell i x.1, 0, false)
  | .inr (.inr i) => (rCell i x.1, 0, false)
theorem tokOf_injective : Function.Injective tokOf := by
  rintro ⟨c, j⟩ ⟨c', j'⟩ h
  have h1 : c = c' := by
    have := congrArg (fun x : GSem nD τ sig × ℕ × Bool => x.1.1.1) h
    rcases j with _ | _ | _ <;> rcases j' with _ | _ | _ <;> exact this
  have h2 : role (tokOf (c, j)).1.2 = role (tokOf (c', j')).1.2 := by rw [h]
  have h3 : (tokOf (c, j)).2.2 = (tokOf (c', j')).2.2 := by rw [h]
  rcases j with b | i | i <;> rcases j' with b' | i' | i' <;>
    simp only [tokOf, role_bar, role_snd, role_rcv, reduceCtorEq, Role.snd.injEq, Role.rcv.injEq] at h2 h3 <;>
    subst h1 <;> first | rw [h3] | rw [h2]
def cellToks : Finset (GSem nD τ sig × ℕ × Bool) := Finset.univ.map ⟨tokOf, tokOf_injective⟩

/-- The element the launch starts from: the pipeline's cells and the exchanges'. -/
def u₀ : UU :=
  (initOf (Pipeline.cells cfgs cellOf_inj) (Pipeline.launchToks cfgs cellOf_inj), (initOf cells cellToks, (1 : Counters)))
theorem u₀_split : (ownU u₀ : sProp 𝕄)
    ⊢ iprop(BI.own (EP (initOf (Pipeline.cells cfgs cellOf_inj) (Pipeline.launchToks cfgs cellOf_inj))) ∗ BI.own (ER (initOf cells cellToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cells cellToks, (1 : Counters)))))

/-! ## Dealing the exchanges' ghost state -/

/-- The tokens of the duties of device `c`'s own cells. -/
def toks (c : Dev nD) : sProp 𝕄 :=
  iprop((dutyTok ER (barCell c) 0 false ∗ dutyTok ER (barCell c) 0 true)
    ∗ (bigSep Finset.univ fun i => dutyTok ER (sCell i c) 0 false) ∗ bigSep Finset.univ fun i => dutyTok ER (rCell i c) 0 false)
/-- The tokens of the duties device `c` pays. -/
def payToks (c : Dev nD) : sProp 𝕄 :=
  iprop((dutyTok ER (barCell (p1 c)) 0 false ∗ dutyTok ER (barCell (p2 c)) 0 true)
    ∗ (bigSep Finset.univ fun i => dutyTok ER (sCell i c) 0 false) ∗ bigSep Finset.univ fun i => dutyTok ER (rCell i (peer i c)) 0 false)

def p1E : Dev nD ≃ Dev nD := ⟨p1, p1, p1_p1, p1_p1⟩
def p2E : Dev nD ≃ Dev nD := ⟨p2, p2, p2_p2, p2_p2⟩
def peerE (i : Fin 20) : Dev nD ≃ Dev nD := ⟨peer i, peer i, peer_peer i, peer_peer i⟩

/-- Each token goes to the device that pays its duty. -/
theorem toks_around : (bigSep Finset.univ fun c : Dev nD => (toks c : sProp 𝕄)) ⊢ bigSep Finset.univ fun c : Dev nD => payToks c := by
  unfold toks payToks
  simp only [bigSep_sep']
  rw [bigSep_univ_equiv p1E (fun c : Dev nD => (dutyTok ER (barCell c) 0 false : sProp 𝕄)),
    bigSep_univ_equiv p2E (fun c : Dev nD => (dutyTok ER (barCell c) 0 true : sProp 𝕄)),
    bigSep_univ_comm (fun (c : Dev nD) (i : Fin 20) => (dutyTok ER (rCell i c) 0 false : sProp 𝕄)),
    bigSep_univ_comm (fun (c : Dev nD) (i : Fin 20) => (dutyTok ER (rCell i (peer i c)) 0 false : sProp 𝕄)),
    bigSep_congr (s := Finset.univ) (fun (i : Fin 20) _ =>
      (bigSep_univ_equiv (peerE i) (fun c : Dev nD => (dutyTok ER (rCell i c) 0 false : sProp 𝕄))))]
  exact Entails.rfl

/-- What the launch element deals device `c`. -/
def G (c : Dev nD) : sProp 𝕄 :=
  iprop((bigSep Finset.univ fun k : Fin 41 => roundState ER (Rd m) (kcell (c, k)) 0)
    ∗ (bigSep Finset.univ fun k : Fin 41 => iprop(atPos ER (kcell (c, k)) 0 ∅ 0 ∗ reached ER (kcell (c, k)) 0)) ∗ toks c)

theorem fund_cells : BI.own (ER (initOf cells cellToks)) ⊢ (|==> bigSep Finset.univ (G m) : sProp 𝕄) := by
  have hX (Φ : GSem nD τ sig → sProp 𝕄) : bigSep cells Φ = bigSep Finset.univ fun c : Dev nD => bigSep Finset.univ fun k : Fin 41 => Φ (kcell (c, k)) := by
    unfold cells; rw [bigSep_map, bigSep_univ_prod]; rfl
  have hT : bigSep cellToks (fun x => (dutyTok ER x.1 x.2.1 x.2.2 : sProp 𝕄)) = bigSep Finset.univ fun c : Dev nD => toks c := by
    unfold cellToks; rw [bigSep_map, bigSep_univ_prod]
    refine bigSep_congr fun c _ => ?_
    unfold toks
    rw [bigSep_univ_sum, bigSep_univ_sum, bigSep_univ_eq_bigSepL [false, true] (by decide) (by decide)]
    rfl
  iintro HX
  imod (Rounds.fund ER (Rd m) cells cellToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

/-- The two semaphores of the local copies. -/
def locs (c : Dev nD) : sProp 𝕄 := iprop(semVal ((c : Thread nD τ), .dma (dS 0)) 0 ∗ semVal ((c : Thread nD τ), .dma (dS 1)) 0)

theorem sems0_eq (c : Dev nD) :
    iprop(Pipeline.ownSems0 (Ix := Unit) (Name := ℕ) (U := UU) (Lvl := ℕ) (Val := Elt F) (τ := τ) osem c ∗ unscopedSems0 c)
      ⊢ iprop(locs c ∗ bigSep Finset.univ fun k : Fin 41 => (semVal (kcell (c, k)) 0 : sProp 𝕄)) := by
  rw [ownSems0_eq, unscopedSems0_eq, sep41]
  unfold locs kcell
  simp only [csem_s, csem_r]
  iintro ⟨⟨⟨H0, H1⟩, HS, HV⟩, HB⟩
  iframe H0 H1 HS HV
  iexact HB

/-- Device `c`'s cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs c) := by
  unfold G
  iintro ⟨Hos, Hus, Hst, Hat, Htok⟩
  ihave Hv := (sems0_eq (F := F) c) $$ [Hos Hus]
  · iframe Hos Hus
  icases Hv with ⟨Hl, Hv⟩
  imod (show iprop((bigSep Finset.univ fun k : Fin 41 => semVal (kcell (c, k)) 0) ∗ bigSep Finset.univ fun k : Fin 41 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe Hv Hst
  imodintro
  iframe Hinv Hat Htok Hl

/-- What every device knows of the cells. -/
def know (K : Dev nD × Fin 41 → ℕ) : sProp 𝕄 :=
  iprop((bigSep Finset.univ fun ck : Dev nD × Fin 41 => cellInv ER (Rd m) (K ck) (kcell ck))
    ∗ bigSep Finset.univ fun ck : Dev nD × Fin 41 => reached ER (kcell ck) 0)
instance know_persistent (K : Dev nD × Fin 41 → ℕ) : BI.Persistent (know m K) := by unfold know; infer_instance

/-- What stays with device `c`: its positions, the tokens it pays with, the local copies' semaphores. -/
def mine (c : Dev nD) : sProp 𝕄 :=
  iprop((bigSep Finset.univ fun k : Fin 41 => atPos ER (kcell (c, k)) 0 ∅ 0) ∗ payToks c ∗ locs c)
/-- What the global step leaves device `c`. -/
def G' (c : Dev nD) : sProp 𝕄 := iprop(∃ K, know m K ∗ mine c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs c) : sProp 𝕄)
      ⊢ bigSep Finset.univ (G' m) := by
  rw [bigSep_sep', bigSep_sep', bigSep_sep', ← bigSep_univ_prod (fun ck : Dev nD × Fin 41 => iprop(∃ κ : ℕ, cellInv ER (Rd m) κ (kcell ck))),
    bigSep_congr (s := Finset.univ) (fun (c : Dev nD) _ => bigSep_sep' Finset.univ (fun k : Fin 41 => (atPos ER (kcell (c, k)) 0 ∅ 0 : sProp 𝕄)) (fun k => reached ER (kcell (c, k)) 0)),
    bigSep_sep', ← bigSep_univ_prod (fun ck : Dev nD × Fin 41 => (reached ER (kcell ck) 0 : sProp 𝕄))]
  iintro ⟨HI, ⟨Hat, #HR⟩, Htok, Hl⟩
  ihave HK := (BI.bigSep_exists_pi Finset.univ (fun (ck : Dev nD × Fin 41) (κ : ℕ) => (cellInv ER (Rd m) κ (kcell ck) : sProp 𝕄))) $$ HI
  icases HK with ⟨%K, #HI⟩
  ihave Htk := (toks_around (F := F)) $$ Htok
  iapply (with_persistent (R := know m K) (Φ := mine) fun c _ => show iprop(know m K ∗ mine c) ⊢ G' m c from by
    unfold G'; iintro ⟨#H, H'⟩; iexists K; isplitr; · iexact H
    iexact H')
  isplitr
  · unfold know; isplitl; · iexact HI
    iexact HR
  · unfold mine; simp only [bigSep_sep']
    iframe Hat Htk Hl

/-- Every device's semaphores at once become the exchanges' cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit a device starts with -/

/-- What the partners owe device `c`: the barrier's two units and every transfer's. -/
theorem creds (c : Dev nD) : (Pipeline.launchCred O₀ c : sProp 𝕄)
    ⊢ iprop(cred (tallyAt (barCell c) () 2) ∗ bigSep Finset.univ fun i => cred (tallyAt (rCell i c) () (NN i))) := by
  have hO : O₀ = fun d : Dev nD => ((∑ i ∈ (Finset.univ : Finset (Fin 20)), tallyAt (rCell i (peer i d)) () (NN i)) + tallyAt (barCell (p2 d)) () 1)
      + tallyAt (barCell (p1 d)) () 1 := by
    funext d; unfold O₀ O₁ owed; simp only [Nat.zero_le, if_true]
  rw [hO, Pipeline.launchCred_add, Pipeline.launchCred_add, Pipeline.launchCred_sum]
  refine (BI.sep_mono (BI.sep_mono (bigSep_mono fun i _ => Pipeline.launchCred_tallyAt (.dma (rS i)) (peer i) (peer i) (peer_peer i) (peer_peer i) () (NN i) c)
    (Pipeline.launchCred_tallyAt (.reg barS) p2 p2 p2_p2 p2_p2 () 1 c)) (Pipeline.launchCred_tallyAt (.reg barS) p1 p1 p1_p1 p1_p1 () 1 c)).trans ?_
  have h2 : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from
      (tallyAt_add _ _ 1 1).symm]
    exact (cred_add _ _).2
  show iprop(((bigSep Finset.univ fun i => cred (tallyAt (rCell i c) () (NN i))) ∗ cred (tallyAt (barCell c) () 1)) ∗ cred (tallyAt (barCell c) () 1))
    ⊢ (iprop(cred (tallyAt (barCell c) () 2) ∗ bigSep Finset.univ fun i => cred (tallyAt (rCell i c) () (NN i))) : sProp 𝕄)
  iintro ⟨⟨HX, H1⟩, H2⟩
  ihave H := (h2) $$ [H1 H2]; · iframe H1 H2
  iframe H HX

/-! ## The pipeline's proof data -/

/-- What device `c`'s body starts from, the buffers it works in apart. -/
def start (c : Dev nD) : sProp 𝕄 := iprop((∃ K, recs m K ∗ todo c) ∗ weights m c)
def Φ₀ (c : Dev nD) : sProp 𝕄 := iprop(start m c ∗ bufs F c)
def Φ₁ (c : Dev nD) : sProp 𝕄 := iprop(done c ∗ weights m c ∗ bufs F c)

/-- The one point: the device's rows in, the whole result out. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => finOut m c
    | ⟨n + 2, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem fetch_0 (t : Fin cfg0.N) : (cfg0.win (0 : Fin 2)).fetch t = true := by rw [fin_N0 t]; rfl

/-- The body table's row at the point is the body. -/
theorem row0 (t : Fin cfg0.N) : defs₀ (F := F) .tc cfg0.body (cfg0.bodyArgs t (cfg0.slots t)) = bodyAt0 t := by
  unfold defs₀; rw [Defs.onTc_tc]

/-- The body on its two staging buffers. -/
def theBody : Prog (TpuEff nD τ sig (Elt F) Λ₀ .tc) PUnit :=
  cc0_body (F := F) Bx (Memref.isWhole_whole _) G1 (Memref.isWhole_whole _) G2 (Memref.isWhole_whole _) G3 (Memref.isWhole_whole _) G4 (Memref.isWhole_whole _) G5 (Memref.isWhole_whole _) G6 (Memref.isWhole_whole _)
      Bo (Memref.isWhole_whole _) Xm (Memref.isWhole_whole _) Am (Memref.isWhole_whole _) S1m (Memref.isWhole_whole _) R1m (Memref.isWhole_whole _) R2m (Memref.isWhole_whole _)
      U1m (Memref.isWhole_whole _) U2m (Memref.isWhole_whole _) V1m (Memref.isWhole_whole _) V2m (Memref.isWhole_whole _) cc0_scratch9 cc0_scratch10 cc0_scratch11
theorem st0 : (st0_0 t0_0) = Bx := rfl
theorem st1 : (st0_1 t0_0) = Bo := rfl
theorem row1 : (bodyAt0 t0_0 : Prog (TpuEff nD τ sig (Elt F) Λ₀ .tc) PUnit) = theBody := by
  unfold bodyAt0 theBody
  rfl

/-- What the point hands the body, and what it takes back. -/
def pre (c : Dev nD) : sProp 𝕄 :=
  iprop(Φ₀ m c ∗ (dats m 0 c).owesAt () (t0_0 : Fin cfg0.N).castSucc
      ∗ (∃ d, own c Bx fullShare ((dats m 0 c).before (0 : Fin 2) t0_0 d)) ∗ (∃ d, own c Bo fullShare ((dats m 0 c).before (1 : Fin 2) t0_0 d)))
def post (c : Dev nD) : sProp 𝕄 :=
  iprop(Φ₁ m c ∗ (dats m 0 c).owesAt () (t0_0 : Fin cfg0.N).succ ∗ own c Bx fullShare (xin m c) ∗ own c Bo fullShare (finOut m c))

/-- The body at the point. -/
theorem body_point (c : Dev nD) : pre m c ⊢ WP c (theBody (F := F)) (fun _ => post m c) := by
  have hx : ∀ d, (dats m 0 c).before (0 : Fin 2) t0_0 d = xin m c := fun d => by
    unfold Dat.before; rw [if_pos (fetch_0 t0_0)]; rfl
  unfold theBody pre post Φ₀ start Φ₁ Dat.owesAt Pipeline.owesWithin
  iintro ⟨⟨⟨⟨%K, HR, Ht⟩, HW⟩, Hb⟩, ⟨%W, %hW, HO⟩, ⟨%d, HB⟩, ⟨%d', HBo⟩⟩
  rw [hx d]
  iapply (body m K c) $$ [HR Ht HW Hb HO HB HBo]
  · iframe HR Ht HB HW Hb
    isplitl [HO]; · iexists W; iexact HO
    iapply (own_any c Bo fullShare _) $$ HBo
  iintro ⟨Hd, HO, HB, HBo, HW, Hb⟩
  iframe Hd HW Hb HB HBo
  unfold OW; icases HO with ⟨%W', HO⟩
  iexists W'
  isplitr; · ipureintro; exact fun _ _ => Or.inl trivial
  iapply (Entails.of_eq (congrArg (fun O => (owes (c : Thread nD τ) O W' : sProp 𝕄)) (owed_end c))) $$ HO

/-- The body meets what the pipeline asks of it. -/
theorem body_obligation (c : Dev nD) : BodyObligation (dats m 0 c) (defs₀ (F := F)) 𝒱₀ () Set.univ := fun t => by
  rw [fin_N0 t]
  rw [bigSep_W0, bigSep_W0, row0, row1]
  exact triple_restated (body_point m c) rfl .rfl fun _ => .rfl

/-! ## The launch -/

/-- The contents of device `c`'s unscoped buffers at the launch. -/
def V (c : Dev nD) (b : Ref sig .tc) : Buf (Elt F) ((c : Thread nD τ).loc b) := m ((c : Thread nD τ).loc b)

/-- The buffers behind no window, the six weights, as the body holds them. -/
theorem weights_eq (c : Dev nD) : (weights m c : sProp 𝕄)
    ⊣⊢ iprop(Pipeline.unscopedRest (Ix := Unit) (Name := ℕ) (U := UU) (Lvl := ℕ) spec0 c (V m c) ∗ locs c) := by
  rw [unscopedRest0_eq]; unfold weights locs V
  simp only [own_whole]
  constructor
  · iintro ⟨H1, H2, H3, H4, H5, H6, H7, H8⟩
    iframe H1 H2 H3 H4 H5 H6 H7 H8
  · iintro ⟨⟨H1, H2, H3, H4, H5, H6⟩, H7, H8⟩
    iframe H1 H2 H3 H4 H5 H6 H7 H8

theorem bufs_eq (c : Dev nD) : (Pipeline.scopedRest (Ix := Unit) (Name := ℕ) (U := UU) (Lvl := ℕ) (Val := Elt F) spec0 c : sProp 𝕄) = bufs F c := by
  rw [scopedRest0_eq]; unfold bufs; simp only [any_whole]

/-- Dealt its ghost state, a device has what its body needs of the exchanges, but for the credit. -/
theorem todo_intro (K : Dev nD × Fin 41 → ℕ) (c : Dev nD) :
    iprop(know m K ∗ levAts L lv ∗ cred (tallyAt (barCell c) () 2) ∗ (bigSep Finset.univ fun i => cred (tallyAt (rCell i c) () (NN i))) ∗ mine c)
      ⊢ iprop((recs m K ∗ todo c) ∗ locs (F := F) c) := by
  unfold know mine payToks recs todo xTodo
  rw [sep41]
  simp only [bigSep_sep', kcell, csem_s, csem_r]
  iintro ⟨⟨HI, HR⟩, HL, Hc, Hcs, ⟨Hb, Hs, Hr⟩, ⟨⟨Ht1, Ht2⟩, Hts, Htr⟩, Hl⟩
  iframe HI HR HL Hc Hcs Hs Hr Ht1 Ht2 Hts Htr Hl
  iexact Hb

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (emp : sProp 𝕄)) := by
  rw [Pipeline.unscopedRestP_none]
  unfold start G'
  iintro ⟨Hw, HL, Hcr, -, %K, HK, Hm⟩
  ihave Hc := (creds (F := F) c) $$ Hcr
  icases Hc with ⟨H1, HN⟩
  ihave HT := (todo_intro m K c) $$ [HK HL H1 HN Hm]
  · iframe HK HL H1 HN Hm
  icases HT with ⟨HT, Hl⟩
  imodintro
  isplitl
  · isplitl [HT]; · iexists K; iexact HT
    iapply (weights_eq m c).2
    isplitl [Hw]; · iexact Hw
    iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = bufs F c from bufs_eq c]
  unfold Φ₀
  iintro ⟨Hs, -, Hr⟩
  iframe Hs Hr

/-- What a device hands back at the end besides its own semaphores and buffers. -/
def back (c : Dev nD) : sProp 𝕄 :=
  iprop(unscopedSems0 c ∗ Pipeline.unscopedRest (Ix := Unit) (Name := ℕ) (U := UU) (Lvl := ℕ) spec0 c (V m c))

theorem phi1_exit (c : Dev nD) :
    (dats m 0 c).Φ (Fin.last cfg0.N) ⊢ iprop(back m c ∗ Pipeline.ownSems0 osem c ∗ Pipeline.scopedRest cfg0.spec c) := by
  rw [show (dats m 0 c).Φ (Fin.last cfg0.N) = Φ₁ m c from rfl, show (Pipeline.scopedRest cfg0.spec c : sProp 𝕄) = bufs F c from bufs_eq c,
    ownSems0_eq]
  unfold Φ₁ done xDone back
  rw [unscopedSems0_eq]
  simp only [bigSep_sep']
  iintro ⟨⟨Hb, Hs, Hr⟩, HW, Hbufs⟩
  ihave HW' := (weights_eq m c).1 $$ HW
  unfold locs
  icases HW' with ⟨HW, Hl⟩
  iframe Hb HW Hl Hs Hr Hbufs

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr rfl)

/-- What the run leaves on device `c`: its arrays as the proof data say, the weights as they were, its unscoped semaphores at zero. -/
def Left (c : Dev nD) (s : MemSt nD τ sig (Elt F)) : Prop :=
  (∀ sm : SemLoc sig, sm.isScoped .tc = false → s.sem ((c.tc : Thread nD τ), sm) = 0)
    ∧ ∀ b ∈ Pipeline.restRefs sig spec0, s.mem ((c : Thread nD τ).loc b) = m ((c : Thread nD τ).loc b)

theorem back_read (c : Dev nD) (s' : Phys nD τ sig (Elt F)) :
    iprop(back m c ∗ emp ∗ SI s') ⊢ |={Set.univ}=> iprop(⌜Left m c s'.mem⌝ ∗ (SI s' : sProp 𝕄)) := by
  unfold back Pipeline.unscopedRest
  iintro ⟨⟨Hu, Hr⟩, -, HSI⟩
  imod (Pipeline.unscopedSems0_read (X := unscopedSems0 c) (c := c) fupd_intro s') $$ [Hu HSI] with ⟨%h1, HSI⟩
  · isplitl [Hu] <;> iassumption
  ihave H := (pointsTo_read_all (Pipeline.restRefs sig spec0) (fun b => (c : Thread nD τ).loc b) (V m c) s') $$ [Hr HSI]
  · isplitl [Hr] <;> iassumption
  icases H with ⟨%h2, HSI⟩
  imodintro
  isplitr; · ipureintro; exact ⟨h1, h2⟩
  iexact HSI

/-- What an array holds after the run. -/
def finalA (c : Dev nD) (w : Fin cfg0.W) : Buf (Elt F) ((cfg0.win w).arr.view.loc (c : Thread nD τ)) := (dats m 0 c).arrAt w cfg0.N

/-- What every run ends with: the arrays at what the proof data compute, the rest as it was, every semaphore at zero. -/
def Ends (r : PUnit × MemSt nD τ sig (Elt F)) : Prop :=
  (∀ c : Dev nD, (∀ w : Fin cfg0.W, r.2.mem ((cfg0.win w).arr.view.loc (c : Thread nD τ)) = finalA m c w)
    ∧ ∀ b ∈ Pipeline.restRefs sig spec0, r.2.mem ((c : Thread nD τ).loc b) = m ((c : Thread nD τ).loc b)) ∧ r.2.sem = fun _ => 0

set_option maxRecDepth 20000 in
/-- On four devices, from any memory with zero counters, every weakly fair run of the kernel ends as `Ends` says. -/
theorem run_ends : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := back m) (Z := fun _ => iprop(emp))
    (hX := start_intro m ρ) (hin := phi0_intro m) (hout := phi1_exit m)
    (QY := Left m) (hY := back_read m)
    (hQ := fun _ h hs => ⟨fun c => ⟨fun w => (h c).1 w, (h c).2.2.2⟩, sem_eq_zero hs fun c => (h c).2.2.1⟩)

/-! ## What the arrays hold -/

theorem finalA_x (c : Dev nD) : finalA m c (0 : Fin 2) = m ((c : Thread nD τ).loc main_arg0) := (dats m 0 c).arrAt_in (0 : Fin 2) rfl _

/-- The one point writes the whole result. -/
theorem finalA_out (c : Dev nD) : finalA m c (1 : Fin 2) = finOut m c := by
  unfold finalA
  refine (dats m 0 c).arrAt_eq_of_after_last 1 t0_0 (by decide +kernel) _ fun j => ?_
  blk_simp
  rfl

/-- Every run of the kernel ends with the result at `finOut` on every device, the arguments as they were and every semaphore at zero. -/
theorem run_main : θ_run defs (onTc (τ := τ) (main (F := F))) ⟨m, fun _ => 0, ρ⟩ (fun r => (∀ c : Dev nD,
    r.2.mem ((c : Thread nD τ).loc main_v1) = finOut m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs (onTc (τ := τ) (main (F := F))) ⟨m, fun _ => 0, ρ⟩).mono (fun r h => ⟨fun c => by
    obtain ⟨ha, hb⟩ := h.1 c
    have hr (b : Ref sig .tc) (hs : b.isScoped = false) (hw : ∀ w, (spec0 w).arr.view.ref ≠ b) := hb b (Pipeline.mem_restRefs_of b hs hw)
    exact ⟨(ha 1).trans (finalA_out m c), (ha 0).trans (finalA_x m c), hr main_arg1 rfl (by decide), hr main_arg2 rfl (by decide), hr main_arg3 rfl (by decide),
      hr main_arg4 rfl (by decide), hr main_arg5 rfl (by decide), hr main_arg6 rfl (by decide)⟩, h.2⟩) (run_ends m ρ)

end Cert.KernelIdeal.Pf
-- ==== Proof.Value.lean ====
/-
The value at the extended reals: the four devices' partial products of a block of rows add up to that block of the
reference's layer, so every device's gathered rows are the blocks of the reference's rows layer after layer, and every
device's result is all of the reference's.
-/
module

public import proofs.«01_k».proof.Proof.Spec
public import proofs.«01_k».proof.Proof.Gen.ReferenceIdeal
public import Idealize.ShloMosaic.Lib.ValueIdx
public import Idealize.ShloMosaic.Lib.IdealHost
public import Idealize.ShloMosaic.Lib.MatmulPlain
public import Idealize.ShloMosaic.Lib.StackMember
public import Idealize.ShloMosaic.Lib.Layout

@[expose] public section

noncomputable section

namespace Cert.KernelIdeal.Pf

open Cert.KernelIdeal Cert.KernelIdeal.Gen

open Idealize.ShloMosaic
open Idealize.ShloMosaic.TcCoe
open Idealize.ShloMosaic.ValueIdx Idealize.ShloMosaic.StackMember

/-! ## One layer, element by element -/

/-- The positive part of one value. -/
def pos (a : Ideal .f32) : Ideal .f32 := FloatOps.maximumf a (Scalar.ofBits .f32 0x00000000#32)

/-- A layer of the reference: the positive part of the first product, times the second weights. -/
def layer (x : Vec Ideal S256x1024 .f32) (w : Vec Ideal Cert.ReferenceIdeal.S1024x8192 .f32)
    (v : Vec Ideal Cert.ReferenceIdeal.S8192x1024 .f32) : Vec Ideal S256x1024 .f32 :=
  Host.dotGeneral (F := Ideal) (φ₂ := .f32) Cert.ReferenceIdeal.dot_S256x8192_S8192x1024_S256x1024_1_0_0_1_n_n none
    (maximumf (Host.dotGeneral (F := Ideal) (φ₁ := .f32) (φ₂ := .f32) Cert.ReferenceIdeal.dot_S256x1024_S1024x8192_S256x8192_1_0_0_1_n_n none x w)
      (broadcastInDim Cert.ReferenceIdeal.S256x8192 ![] Cert.ReferenceIdeal.Gen.bcast_S_S256x8192
        (constant Cert.ReferenceIdeal.S_ .f32 0x00000000#32))) v

/-- A device's partial product, read at row `r` and column `j`. -/
theorem mlp_apply (x : Vec Ideal S64x1024 .bf16) (w : Vec Ideal S1024x2048 .bf16) (v : Vec Ideal S2048x1024 .bf16)
    (r : Fin 64) (j : Fin 1024) :
    mlp x w v (ix2 r j) = ∑ k : Fin 2048, (pos (∑ t : Fin 1024, x (ix2 r t) * w (ix2 t k)) : EReal) * v (ix2 k j) := by
  have h1 (k : Fin 2048) : mm1 x w (ix2 r k) = ∑ t : Fin 1024, x (ix2 r t) * w (ix2 t k) :=
    (Ideal.matmul_plain_apply none x w (constant (F := Ideal) S64x2048 .f32 0x00000000#32) r k).trans
      ((congrArg (fun a : EReal => a + ∑ t : Fin 1024, x (ix2 r t) * w (ix2 t k)) Ideal.ofBits_zero_f32).trans (zero_add _))
  refine (Ideal.matmul_plain_apply none (relu (mm1 x w)) v (constant (F := Ideal) S64x1024 .f32 0x00000000#32) r j).trans ?_
  refine ((congrArg (fun a : EReal => a + ∑ k : Fin 2048, relu (mm1 x w) (ix2 r k) * v (ix2 k j)) Ideal.ofBits_zero_f32).trans (zero_add _)).trans ?_
  refine Finset.sum_congr rfl fun k _ => ?_
  rw [← h1 k]
  rfl

/-- The reference's dot dimensions are those of a plain product. -/
theorem dot_in : Cert.ReferenceIdeal.dot_S256x1024_S1024x8192_S256x8192_1_0_0_1_n_n = DotDims.plain 256 1024 8192 := rfl
theorem dot_out : Cert.ReferenceIdeal.dot_S256x8192_S8192x1024_S256x1024_1_0_0_1_n_n = DotDims.plain 256 8192 1024 := rfl

/-- A layer of the reference, read at row `r` and column `j`. -/
theorem layer_apply (x : Vec Ideal S256x1024 .f32) (w : Vec Ideal Cert.ReferenceIdeal.S1024x8192 .f32)
    (v : Vec Ideal Cert.ReferenceIdeal.S8192x1024 .f32) (r : Fin 256) (j : Fin 1024) :
    layer x w v (ix2 r j) = ∑ k : Fin 8192, (pos (∑ t : Fin 1024, x (ix2 r t) * w (ix2 t k)) : EReal) * v (ix2 k j) := by
  unfold layer
  rw [dot_in, dot_out]
  refine (dotGeneral_plain_apply none _ v r j).trans (Finset.sum_congr rfl fun k _ => ?_)
  refine congrArg (fun a : EReal => a * v (ix2 k j)) ?_
  exact congrArg pos (dotGeneral_plain_apply none x w r k)

/-! ## Blocks -/

/-- Where row `r` of block `c` of the rows is. -/
theorem rows_idx {a b a' : ℕ} (h : Layout.Tiles ⟨2, ![a, b]⟩ ⟨2, ![a', b]⟩ 0 4) (c : Fin 4) (r : Fin a) (l : Fin b)
    (hr : c.val * a + r.val < a') : h.idx c (ix2 r l) = ix2 ⟨c.val * a + r.val, hr⟩ l := by
  funext d
  match d with
  | ⟨0, _⟩ => exact Fin.ext (Layout.idx_rows_val h c (ix2 r l)).1
  | ⟨1, _⟩ => exact Fin.ext (Layout.idx_rows_val h c (ix2 r l)).2

/-- Where column `l` of block `c` of the columns is. -/
theorem cols_idx {a b b' : ℕ} (h : Layout.Tiles ⟨2, ![a, b]⟩ ⟨2, ![a, b']⟩ 1 4) (c : Fin 4) (r : Fin a) (l : Fin b)
    (hl : c.val * b + l.val < b') : h.idx c (ix2 r l) = ix2 r ⟨c.val * b + l.val, hl⟩ := by
  funext d
  match d with
  | ⟨0, _⟩ => exact Fin.ext (Layout.idx_cols_val h c (ix2 r l)).1
  | ⟨1, _⟩ => exact Fin.ext (Layout.idx_cols_val h c (ix2 r l)).2

/-- A sum over the hidden axis, device by device. -/
theorem sum_hidden (f : Fin 8192 → EReal) :
    ∑ k : Fin 8192, f k = ∑ d : Fin 4, ∑ k : Fin 2048, f ⟨d.val * 2048 + k.val, by have := d.isLt; have := k.isLt; omega⟩ := by
  refine ((Equiv.sum_comp (finProdFinEquiv (m := 4) (n := 2048)) f).symm.trans (Fintype.sum_prod_type _)).trans ?_
  refine Finset.sum_congr rfl fun d _ => Finset.sum_congr rfl fun k _ => congrArg f (Fin.ext ?_)
  show k.val + 2048 * d.val = d.val * 2048 + k.val
  omega

/-- Block `n` of the rows of a 256-row array. -/
abbrev rowsOf (n : Fin 4) (x : Vec Ideal S256x1024 .f32) : Vec Ideal S64x1024 .f32 :=
  Layout.block ⟨2, ![64, 1024]⟩ ⟨2, ![256, 1024]⟩ 0 4 n x
/-- Block `d` of the columns of the first weights, and of the rows of the second. -/
abbrev inOf (d : Fin 4) (w : Vec Ideal Cert.ReferenceIdeal.S1024x8192 .f32) : Vec Ideal S1024x2048 .f32 :=
  Layout.block ⟨2, ![1024, 2048]⟩ ⟨2, ![1024, 8192]⟩ 1 4 d w
abbrev outOf (d : Fin 4) (v : Vec Ideal Cert.ReferenceIdeal.S8192x1024 .f32) : Vec Ideal S2048x1024 .f32 :=
  Layout.block ⟨2, ![2048, 1024]⟩ ⟨2, ![8192, 1024]⟩ 0 4 d v

/-- The partial product device `d` makes of rows `n`. -/
def part (x : Vec Ideal S256x1024 .f32) (w : Vec Ideal Cert.ReferenceIdeal.S1024x8192 .f32)
    (v : Vec Ideal Cert.ReferenceIdeal.S8192x1024 .f32) (n d : Fin 4) : Vec Ideal S64x1024 .f32 :=
  mlp (tr (rowsOf n x)) (trW1 (inOf d w)) (trW2 (outOf d v))

/-- A block of rows of a reference layer is the sum of the four devices' partial products. -/
theorem layer_rows (x : Vec Ideal S256x1024 .f32) (w : Vec Ideal Cert.ReferenceIdeal.S1024x8192 .f32)
    (v : Vec Ideal Cert.ReferenceIdeal.S8192x1024 .f32) (n : Fin 4) (i : S64x1024.Idx) :
    rowsOf n (layer x w v) i = ∑ d : Fin 4, (part x w v n d i : EReal) := by
  obtain ⟨r, j, rfl⟩ : ∃ (r : Fin 64) (j : Fin 1024), i = ix2 r j := ⟨i 0, i 1, eq_ix2 i⟩
  have hr : n.val * 64 + r.val < 256 := by have := n.isLt; have := r.isLt; omega
  have hx (t : Fin 1024) : (tr (rowsOf n x) : Vec Ideal S64x1024 .bf16) (ix2 r t) = x (ix2 ⟨n.val * 64 + r.val, hr⟩ t) :=
    congrArg x (rows_idx _ n r t hr)
  have hl : rowsOf n (layer x w v) (ix2 r j) = layer x w v (ix2 ⟨n.val * 64 + r.val, hr⟩ j) :=
    congrArg (layer x w v) (rows_idx _ n r j hr)
  rw [hl, layer_apply, sum_hidden]
  refine Finset.sum_congr rfl fun d _ => ?_
  unfold part
  rw [mlp_apply]
  refine Finset.sum_congr rfl fun k _ => ?_
  have hk : d.val * 2048 + k.val < 8192 := by have := d.isLt; have := k.isLt; omega
  have hw (t : Fin 1024) : (trW1 (inOf d w) : Vec Ideal S1024x2048 .bf16) (ix2 t k) = w (ix2 t ⟨d.val * 2048 + k.val, hk⟩) :=
    congrArg w (cols_idx _ d t k hk)
  have hv : (trW2 (outOf d v) : Vec Ideal S2048x1024 .bf16) (ix2 k j) = v (ix2 ⟨d.val * 2048 + k.val, hk⟩ j) :=
    congrArg v (rows_idx _ d k j hk)
  rw [hv]
  simp only [hx, hw]

/-! ## Layer after layer -/

section Run

variable (m : (ℓ : Loc nD τ sig) → Buf (Elt Ideal) ℓ)
  (x : Vec Ideal S256x1024 .f32) (W : ℕ → Vec Ideal Cert.ReferenceIdeal.S1024x8192 .f32)
  (V : ℕ → Vec Ideal Cert.ReferenceIdeal.S8192x1024 .f32)

/-- The reference's rows after `l` layers. -/
def ref : ℕ → Vec Ideal S256x1024 .f32
  | 0 => x
  | l + 1 => layer (ref l) (W l) (V l)

/-- Over a device, its first partner, its second partner and that one's first partner, every device is met once. -/
theorem sum_partners (f : Fin 4 → EReal) (c : Dev nD) :
    (f (xq c) + f (xq (p1 c))) + (f (xq (p2 c)) + f (xq (p1 (p2 c)))) = ∑ d : Fin 4, f d := by
  have h4 : ∑ d : Fin 4, f d = f 0 + f 1 + f 2 + f 3 := Fin.sum_univ_four f
  rw [h4]
  have key : ∀ c : Fin 4, (f (xq c) + f (xq (p1 c))) + (f (xq (p2 c)) + f (xq (p1 (p2 c)))) = f 0 + f 1 + f 2 + f 3 := by
    intro c
    match c with
    | 0 => show (f 0 + f 1) + (f 3 + f 2) = _; rw [add_comm (f 3), ← add_assoc]
    | 1 => show (f 1 + f 0) + (f 2 + f 3) = _; rw [add_comm (f 1), ← add_assoc]
    | 2 => show (f 2 + f 3) + (f 1 + f 0) = _; rw [add_comm (f 2 + f 3), add_comm (f 1), ← add_assoc]
    | 3 => show (f 3 + f 2) + (f 0 + f 1) = _; rw [add_comm (f 3 + f 2), add_comm (f 3), ← add_assoc]
  exact key c

variable (hx : ∀ c : Dev nD, m ((c : Thread nD τ).loc main_arg0) = rowsOf (xq c) x)
  (hW : ∀ (l : ℕ) (c : Dev nD), w1 m l c = inOf (xq c) (W l)) (hV : ∀ (l : ℕ) (c : Dev nD), w2 m l c = outOf (xq c) (V l))

include hW hV in
/-- If every device holds the reference's rows block by block, the sums over the four devices are the next layer's. -/
theorem resOf_eq (X : Rows Ideal) (l : ℕ) (Y : Vec Ideal S256x1024 .f32) (hX : ∀ c n, X c n = tr (rowsOf n Y))
    (c : Dev nD) (n : Fin 4) : resOf m X l c n = rowsOf n (layer Y (W l) (V l)) := by
  have hh (d : Dev nD) : hidOf m X l d n = part Y (W l) (V l) n (xq d) := by
    unfold hidOf part; rw [hX, hW, hV]
  funext i
  rw [layer_rows, ← sum_partners (fun d => part Y (W l) (V l) n d i) c]
  show (hidOf m X l c n i + hidOf m X l (p1 c) n i : EReal) + (hidOf m X l (p2 c) n i + hidOf m X l (p1 (p2 c)) n i) = _
  rw [hh, hh, hh, hh]

include hx in
theorem xin_eq (c : Dev nD) : xin m c = rowsOf (xq c) x := by
  rw [← hx c]
  funext i
  refine congrArg (m ((c : Thread nD τ).loc main_arg0)) ?_
  funext d
  fin_cases d <;> apply Fin.ext
  · show 0 + 1 * (i (0 : Fin 2)).val = (i (0 : Fin 2)).val
    omega
  · show 0 + 1 * (i (1 : Fin 2)).val = (i (1 : Fin 2)).val
    omega

include hx hW hV in
/-- After `l` layers every device holds the reference's rows, block by block. -/
theorem xv_eq (l : ℕ) (c : Dev nD) (n : Fin 4) : xv m l c n = tr (rowsOf n (ref x W V l)) := by
  induction l generalizing c n with
  | zero => exact congrArg tr (xin_eq m x hx (dv n))
  | succ l ih => exact congrArg tr (resOf_eq m W V hW hV (xv m l) l (ref x W V l) ih _ n)

/-- A member of a rectangle's set is the rectangle's own index placed. -/
theorem exists_emb {s : Shape} (r : Rect s) {z : s.Idx} (hz : z ∈ r.set) : ∃ y, r.emb y = z := by
  choose j hj he using (LoadRect.mem_set r.toLoadRect).1 hz
  exact ⟨fun a => ⟨j a, hj a⟩, funext fun a => Fin.ext (he a).symm⟩

/-- The four blocks of rows glued, quarters into halves and halves into the whole, are the array. -/
theorem glue_rows (Y : Vec Ideal S256x1024 .f32) : (glueH fun h => glue2 fun q => rowsOf (qt h q) Y) = Y := by
  funext i
  obtain ⟨h, _, hi⟩ := Finset.mem_biUnion.1 (hr_cov.symm ▸ Finset.mem_univ i)
  obtain ⟨z, rfl⟩ := exists_emb (hr h) hi
  refine (Rect.glue_emb hr hr_cov hr_disj _ h z).trans ?_
  obtain ⟨q, _, hz⟩ := Finset.mem_biUnion.1 (hq_cov.symm ▸ Finset.mem_univ z)
  obtain ⟨y, rfl⟩ := exists_emb (hq q) hz
  refine (Rect.glue_emb hq hq_cov hq_disj _ q y).trans ?_
  refine congrArg Y ?_
  rw [half_quar_emb h q y]
  obtain ⟨r, j, rfl⟩ : ∃ (r : Fin 64) (j : Fin 1024), y = ix2 r j := ⟨y 0, y 1, eq_ix2 y⟩
  rw [rows_idx _ (qt h q) r j (by have := (qt h q).isLt; have := r.isLt; omega)]
  funext d
  fin_cases d <;> apply Fin.ext
  · show (qt h q).val * 64 + r.val = 64 * (qt h q).val + 1 * r.val
    omega
  · show j.val = 0 + 1 * j.val
    omega

/-- Rounding loses nothing over the extended reals: two rounded quarters glued and read in single precision are the quarters glued. -/
theorem ex_glue (Z : Fin 2 → Vec Ideal S64x1024 .f32) :
    (extf .f32 (glue2 (fun q => (tr (Z q) : Vec Ideal S64x1024 .bf16)) : FVec Ideal S128x1024 .bf16) bitsLt_bf16_f32 : FVec Ideal S128x1024 .f32)
      = glue2 Z := by
  funext z
  obtain ⟨q, _, hz⟩ := Finset.mem_biUnion.1 (hq_cov.symm ▸ Finset.mem_univ z)
  obtain ⟨y, rfl⟩ := exists_emb (hq q) hz
  rw [extf_apply]
  exact (Rect.glue_emb hq hq_cov hq_disj (fun q => (tr (Z q) : Vec Ideal S64x1024 .bf16)) q y).trans (Rect.glue_emb hq hq_cov hq_disj Z q y).symm

include hx hW hV in
/-- Every device's result is the reference's after three layers. -/
theorem finOut_eq (c : Dev nD) : finOut m c = ref x W V 3 := by
  have hfin : finOut m c = glueH fun h => glue2 fun q => rowsOf (qt h q) (ref x W V 3) := by
    unfold finOut
    refine congrArg glueH (funext fun h => ?_)
    have h1 (q : Fin 2) : res m 2 c (qt h q) = rowsOf (qt h q) (ref x W V 3) :=
      resOf_eq m W V hW hV (xv m 2) 2 (ref x W V 2) (xv_eq m x W V hx hW hV 2) c _
    have h2 (q : Fin 2) : xv m 3 c (qt h q) = tr (rowsOf (qt h q) (ref x W V 3)) := xv_eq m x W V hx hW hV 3 c _
    split
    · exact congrArg glue2 (funext h1)
    · rw [show (fun q => xv m 3 c (qt h q)) = fun q => tr (rowsOf (qt h q) (ref x W V 3)) from funext h2]
      exact ex_glue fun q => rowsOf (qt h q) (ref x W V 3)
  exact hfin.trans (glue_rows _)

end Run

end Cert.KernelIdeal.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The printed kernel runs to its end from any memory, its arguments unchanged and every counter at zero. -/
theorem frame_k : Cert.quiescent_Kernel := by
  intro m ρ _
  exact (θ_run Cert.Kernel.defs _ _).mono (fun r h => ⟨fun c => (h.1 c).2, h.2⟩) (Cert.Kernel.Pf.run_main (F := Bits) m ρ)

/-- The same of the kernel over the extended reals. -/
theorem frame_ki : Cert.quiescent_KernelIdeal := by
  intro m ρ _
  exact (θ_run Cert.KernelIdeal.defs _ _).mono (fun r h => ⟨fun c => (h.1 c).2, h.2⟩) (Cert.KernelIdeal.Pf.run_main (F := Ideal) m ρ)

/-- The same of the reference, which declares no semaphore. -/
theorem frame_ri : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

section Value

variable (m' : (ℓ : Loc Cert.ReferenceIdeal.nD Cert.ReferenceIdeal.τ Cert.ReferenceIdeal.sig) → Buf (Elt Ideal) ℓ)

/-- An argument of the reference at launch. -/
abbrev arg (b : Ref Cert.ReferenceIdeal.sig .tc) := m' (((0 : Dev Cert.ReferenceIdeal.nD).tc : Thread Cert.ReferenceIdeal.nD Cert.ReferenceIdeal.τ).loc b)

/-- The reference's first weights of layer `l`, and its second. -/
def refIn (l : ℕ) : Vec Ideal Cert.ReferenceIdeal.S1024x8192 .f32 :=
  match l with
  | 0 => arg m' Cert.ReferenceIdeal.main_arg1
  | 1 => arg m' Cert.ReferenceIdeal.main_arg3
  | _ => arg m' Cert.ReferenceIdeal.main_arg5
def refOut (l : ℕ) : Vec Ideal Cert.ReferenceIdeal.S8192x1024 .f32 :=
  match l with
  | 0 => arg m' Cert.ReferenceIdeal.main_arg2
  | 1 => arg m' Cert.ReferenceIdeal.main_arg4
  | _ => arg m' Cert.ReferenceIdeal.main_arg6

end Value

/-- Where every device holds its blocks of the reference's arguments, every device's result is all of the reference's. -/
theorem algebraic : Cert.algebraic_KernelIdeal_ReferenceIdeal := by
  intro m ρ m' ρ' _ hagree
  refine ⟨Cert.KernelIdeal.Pf.ref (arg m' Cert.ReferenceIdeal.main_arg0) (refIn m') (refOut m') 3, ?_, ?_⟩
  · refine (θ_run Cert.KernelIdeal.defs _ _).mono (fun r h c => ⟨(h.1 c).1.trans ?_, (h.1 c).2⟩) (Cert.KernelIdeal.Pf.run_main (F := Ideal) m ρ)
    refine Cert.KernelIdeal.Pf.finOut_eq m _ (refIn m') (refOut m') (fun d => (hagree d).1) ?_ ?_ c
    · intro l d
      match l with
      | 0 => exact (hagree d).2.1
      | 1 => exact (hagree d).2.2.2.1
      | _ + 2 => exact (hagree d).2.2.2.2.2.1
    · intro l d
      match l with
      | 0 => exact (hagree d).2.2.1
      | 1 => exact (hagree d).2.2.2.2.1
      | _ + 2 => exact (hagree d).2.2.2.2.2.2
  · exact (θ_run Cert.ReferenceIdeal.defs _ _).mono (fun r h => ⟨(h 0).1, (h 0).2⟩) (Cert.ReferenceIdeal.Value.run (F := Ideal) m' ρ')

/-- Everything the certificate claims. -/
theorem claim : Cert.Claim := ⟨Cert.Kernel.Gen.facts, Cert.KernelIdeal.Gen.facts, Cert.ReferenceIdeal.Gen.facts,
  frame_k, frame_ki, frame_ri, trivial, algebraic⟩

end Cert.Proof

end
